-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x20 : Shape := ⟨2, ![20000, 20]⟩
abbrev S20000x4 : Shape := ⟨2, ![20000, 4]⟩
abbrev S20000x2 : Shape := ⟨2, ![20000, 2]⟩
abbrev S_ : Shape := ⟨0, ![]⟩
abbrev S400000 : Shape := ⟨1, ![400000]⟩
abbrev S8x50000 : Shape := ⟨2, ![8, 50000]⟩
abbrev S8x1000 : Shape := ⟨2, ![8, 1000]⟩
abbrev S8 : Shape := ⟨1, ![8]⟩
abbrev S8x1 : Shape := ⟨2, ![8, 1]⟩
abbrev S8000 : Shape := ⟨1, ![8000]⟩
abbrev S1000 : Shape := ⟨1, ![1000]⟩
abbrev S1000x1 : Shape := ⟨2, ![1000, 1]⟩
abbrev S1000x2 : Shape := ⟨2, ![1000, 2]⟩
abbrev S1000x4 : Shape := ⟨2, ![1000, 4]⟩
abbrev S1024 : Shape := ⟨1, ![1024]⟩
abbrev S1024x2 : Shape := ⟨2, ![1024, 2]⟩
abbrev S1024x4 : Shape := ⟨2, ![1024, 4]⟩
abbrev S1x1024 : Shape := ⟨2, ![1, 1024]⟩
abbrev S1024x1 : Shape := ⟨2, ![1024, 1]⟩
abbrev S2x1024 : Shape := ⟨2, ![2, 1024]⟩
abbrev S4x1024 : Shape := ⟨2, ![4, 1024]⟩
abbrev S6x1024 : Shape := ⟨2, ![6, 1024]⟩
abbrev S1024x1024 : Shape := ⟨2, ![1024, 1024]⟩
abbrev S1x1024x4 : Shape := ⟨3, ![1, 1024, 4]⟩
abbrev S1 : Shape := ⟨1, ![1]⟩
abbrev S1x1x1 : Shape := ⟨3, ![1, 1, 1]⟩
abbrev S1x1x1024 : Shape := ⟨3, ![1, 1, 1024]⟩
abbrev S1024x6 : Shape := ⟨2, ![1024, 6]⟩
abbrev S1000x6 : Shape := ⟨2, ![1000, 6]⟩

abbrev nBuf : Space → Nat
  | .hbm => 114
  | .vmem => 9
  | .smem => 0
  | _ => 0

abbrev bufTy : (tb : Table) → Fin (tcTables nBuf tb) → BufTy
  | .hbm, ⟨0, _⟩ => ⟨S20000x20, .f32⟩
  | .hbm, ⟨1, _⟩ => ⟨S20000x4, .f32⟩
  | .hbm, ⟨2, _⟩ => ⟨S20000x2, .f32⟩
  | .hbm, ⟨3, _⟩ => ⟨S20000x20, .f32⟩
  | .hbm, ⟨4, _⟩ => ⟨S20000x20, .f32⟩
  | .hbm, ⟨5, _⟩ => ⟨S_, .f32⟩
  | .hbm, ⟨6, _⟩ => ⟨S20000x20, .f32⟩
  | .hbm, ⟨7, _⟩ => ⟨S20000x20, .f32⟩
  | .hbm, ⟨8, _⟩ => ⟨S_, .f32⟩
  | .hbm, ⟨9, _⟩ => ⟨S20000x20, .f32⟩
  | .hbm, ⟨10, _⟩ => ⟨S20000x20, .f32⟩
  | .hbm, ⟨11, _⟩ => ⟨S400000, .f32⟩
  | .hbm, ⟨12, _⟩ => ⟨S8x50000, .f32⟩
  | .hbm, ⟨13, _⟩ => ⟨S8x1000, .f32⟩
  | .hbm, ⟨14, _⟩ => ⟨S8x1000, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S8x1000, .i32⟩
  | .hbm, ⟨21, _⟩ => ⟨S8x1000, .i32⟩
  | .hbm, ⟨22, _⟩ => ⟨S8000, .i32⟩
  | .hbm, ⟨23, _⟩ => ⟨S8000, .f32⟩
  | .hbm, ⟨24, _⟩ => ⟨S1000, .f32⟩
  | .hbm, ⟨25, _⟩ => ⟨S1000, .i32⟩
  | .hbm, ⟨26, _⟩ => ⟨S_, .i32⟩
  | .hbm, ⟨27, _⟩ => ⟨S1000, .i32⟩
  | .hbm, ⟨28, _⟩ => ⟨S1000, .i1⟩
  | .hbm, ⟨29, _⟩ => ⟨S_, .i32⟩
  | .hbm, ⟨30, _⟩ => ⟨S1000, .i32⟩
  | .hbm, ⟨31, _⟩ => ⟨S1000, .i32⟩
  | .hbm, ⟨32, _⟩ => ⟨S1000, .i32⟩
  | .hbm, ⟨33, _⟩ => ⟨S1000x1, .i32⟩
  | .hbm, ⟨34, _⟩ => ⟨S1000, .i32⟩
  | .hbm, ⟨35, _⟩ => ⟨S_, .i32⟩
  | .hbm, ⟨36, _⟩ => ⟨S_, .i32⟩
  | .hbm, ⟨37, _⟩ => ⟨S1000, .i32⟩
  | .hbm, ⟨38, _⟩ => ⟨S1000, .i32⟩
  | .hbm, ⟨39, _⟩ => ⟨S1000, .i32⟩
  | .hbm, ⟨40, _⟩ => ⟨S_, .i32⟩
  | .hbm, ⟨41, _⟩ => ⟨S1000, .i32⟩
  | .hbm, ⟨42, _⟩ => ⟨S1000, .i1⟩
  | .hbm, ⟨43, _⟩ => ⟨S1000, .i32⟩
  | .hbm, ⟨44, _⟩ => ⟨S1000, .i32⟩
  | .hbm, ⟨45, _⟩ => ⟨S_, .i32⟩
  | .hbm, ⟨46, _⟩ => ⟨S1000, .i32⟩
  | .hbm, ⟨47, _⟩ => ⟨S1000, .i1⟩
  | .hbm, ⟨48, _⟩ => ⟨S1000, .i1⟩
  | .hbm, ⟨49, _⟩ => ⟨S_, .i32⟩
  | .hbm, ⟨50, _⟩ => ⟨S1000, .i32⟩
  | .hbm, ⟨51, _⟩ => ⟨S1000, .i32⟩
  | .hbm, ⟨52, _⟩ => ⟨S1000, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S1000, .i32⟩
  | .hbm, ⟨60, _⟩ => ⟨S1000, .i32⟩
  | .hbm, ⟨61, _⟩ => ⟨S_, .i32⟩
  | .hbm, ⟨62, _⟩ => ⟨S1000, .i32⟩
  | .hbm, ⟨63, _⟩ => ⟨S1000, .i1⟩
  | .hbm, ⟨64, _⟩ => ⟨S_, .i32⟩
  | .hbm, ⟨65, _⟩ => ⟨S1000, .i32⟩
  | .hbm, ⟨66, _⟩ => ⟨S1000, .i1⟩
  | .hbm, ⟨67, _⟩ => ⟨S_, .i32⟩
  | .hbm, ⟨68, _⟩ => ⟨S_, .i1⟩
  | .hbm, ⟨69, _⟩ => ⟨S1000, .i1⟩
  | .hbm, ⟨70, _⟩ => ⟨S1000, .i1⟩
  | .hbm, ⟨71, _⟩ => ⟨S1000, .i1⟩
  | .hbm, ⟨72, _⟩ => ⟨S1000, .i32⟩
  | .hbm, ⟨73, _⟩ => ⟨S1000, .i32⟩
  | .hbm, ⟨74, _⟩ => ⟨S1000, .i32⟩
  | .hbm, ⟨75, _⟩ => ⟨S1000, .f32⟩
  | .hbm, ⟨76, _⟩ => ⟨S_, .i32⟩
  | .hbm, ⟨77, _⟩ => ⟨S1000, .i32⟩
  | .hbm, ⟨78, _⟩ => ⟨S1000, .i1⟩
  | .hbm, ⟨79, _⟩ => ⟨S_, .i32⟩
  | .hbm, ⟨80, _⟩ => ⟨S1000, .i32⟩
  | .hbm, ⟨81, _⟩ => ⟨S1000, .i32⟩
  | .hbm, ⟨82, _⟩ => ⟨S1000, .i32⟩
  | .hbm, ⟨83, _⟩ => ⟨S1000x1, .i32⟩
  | .hbm, ⟨84, _⟩ => ⟨S1000x2, .f32⟩
  | .hbm, ⟨85, _⟩ => ⟨S_, .i32⟩
  | .hbm, ⟨86, _⟩ => ⟨S1000, .i32⟩
  | .hbm, ⟨87, _⟩ => ⟨S1000, .i1⟩
  | .hbm, ⟨88, _⟩ => ⟨S_, .i32⟩
  | .hbm, ⟨89, _⟩ => ⟨S1000, .i32⟩
  | .hbm, ⟨90, _⟩ => ⟨S1000, .i32⟩
  | .hbm, ⟨91, _⟩ => ⟨S1000, .i32⟩
  | .hbm, ⟨92, _⟩ => ⟨S1000x1, .i32⟩
  | .hbm, ⟨93, _⟩ => ⟨S1000x4, .f32⟩
  | .hbm, ⟨94, _⟩ => ⟨S_, .f32⟩
  | .hbm, ⟨95, _⟩ => ⟨S_, .f32⟩
  | .hbm, ⟨96, _⟩ => ⟨S1024, .f32⟩
  | .hbm, ⟨97, _⟩ => ⟨S_, .i32⟩
  | .hbm, ⟨98, _⟩ => ⟨S_, .f32⟩
  | .hbm, ⟨99, _⟩ => ⟨S1024, .f32⟩
  | .hbm, ⟨100, _⟩ => ⟨S_, .i32⟩
  | .hbm, ⟨101, _⟩ => ⟨S_, .f32⟩
  | .hbm, ⟨102, _⟩ => ⟨S1024x2, .f32⟩
  | .hbm, ⟨103, _⟩ => ⟨S_, .i32⟩
  | .hbm, ⟨104, _⟩ => ⟨S_, .f32⟩
  | .hbm, ⟨105, _⟩ => ⟨S1024x4, .f32⟩
  | .hbm, ⟨106, _⟩ => ⟨S1x1024, .f32⟩
  | .hbm, ⟨107, _⟩ => ⟨S1x1024, .f32⟩
  | .hbm, ⟨108, _⟩ => ⟨S1024x1, .f32⟩
  | .hbm, ⟨109, _⟩ => ⟨S2x1024, .f32⟩
  | .hbm, ⟨110, _⟩ => ⟨S4x1024, .f32⟩
  | .hbm, ⟨111, _⟩ => ⟨S6x1024, .f32⟩
  | .hbm, ⟨112, _⟩ => ⟨S1024x6, .f32⟩
  | .hbm, ⟨113, _⟩ => ⟨S1000x6, .f32⟩
  | .local _ .vmem, ⟨0, _⟩ => ⟨S1x1024, .f32⟩
  | .local _ .vmem, ⟨1, _⟩ => ⟨S1x1024, .f32⟩
  | .local _ .vmem, ⟨2, _⟩ => ⟨S1024x1, .f32⟩
  | .local _ .vmem, ⟨3, _⟩ => ⟨S1024x2, .f32⟩
  | .local _ .vmem, ⟨4, _⟩ => ⟨S1024x4, .f32⟩
  | .local _ .vmem, ⟨5, _⟩ => ⟨S2x1024, .f32⟩
  | .local _ .vmem, ⟨6, _⟩ => ⟨S4x1024, .f32⟩
  | .local _ .vmem, ⟨7, _⟩ => ⟨S6x1024, .f32⟩
  | .local _ .vmem, ⟨8, _⟩ => ⟨S1024x1024, .f32⟩
  | _, _ => ⟨S20000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values_1 : Ref sig .tc := ⟨.hbm, 24, rfl⟩
abbrev main_indices_2 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v23 : Ref sig .tc := ⟨.hbm, 52, rfl⟩
abbrev main_c_6 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v24 : Ref sig .tc := ⟨.hbm, 74, rfl⟩
abbrev main_v25 : Ref sig .tc := ⟨.hbm, 75, rfl⟩
abbrev main_c_7 : Ref sig .tc := ⟨.hbm, 76, rfl⟩
abbrev main_v26 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_c_9 : Ref sig .tc := ⟨.hbm, 85, rfl⟩
abbrev main_v33 : Ref sig .tc := ⟨.hbm, 86, rfl⟩
abbrev main_v34 : Ref sig .tc := ⟨.hbm, 87, rfl⟩
abbrev main_c_10 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_11 : Ref sig .tc := ⟨.hbm, 94, rfl⟩
abbrev main_call2_v0 : Ref sig .tc := ⟨.hbm, 95, rfl⟩
abbrev main_v40 : Ref sig .tc := ⟨.hbm, 96, rfl⟩
abbrev main_c_12 : Ref sig .tc := ⟨.hbm, 97, rfl⟩
abbrev main_call3_v0 : Ref sig .tc := ⟨.hbm, 98, rfl⟩
abbrev main_v41 : Ref sig .tc := ⟨.hbm, 99, rfl⟩
abbrev main_c_13 : Ref sig .tc := ⟨.hbm, 100, rfl⟩
abbrev main_call4_v0 : Ref sig .tc := ⟨.hbm, 101, rfl⟩
abbrev main_v42 : Ref sig .tc := ⟨.hbm, 102, rfl⟩
abbrev main_c_14 : Ref sig .tc := ⟨.hbm, 103, rfl⟩
abbrev main_call5_v0 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1000_i32_36 : BitVec 32 := 1000#32
  let v125 : BitVec 32 := Scalar.addi c0_i32 c1000_i32_36
  let c1_i32 : BitVec 32 := 1#32
  ⟨c0_i32, v125, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let v136 : Index := Scalar.indexCast arg9
  let c0_44 : Index := 0#32
  ![v136.toNat, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S20000x20 : Shape := ⟨2, ![20000, 20]⟩
abbrev S20000x4 : Shape := ⟨2, ![20000, 4]⟩
abbrev S20000x2 : Shape := ⟨2, ![20000, 2]⟩
abbrev S_ : Shape := ⟨0, ![]⟩
abbrev S400000 : Shape := ⟨1, ![400000]⟩
abbrev S1000 : Shape := ⟨1, ![1000]⟩
abbrev S1000x1 : Shape := ⟨2, ![1000, 1]⟩
abbrev S1000x4 : Shape := ⟨2, ![1000, 4]⟩
abbrev S1x1000 : Shape := ⟨2, ![1, 1000]⟩
abbrev S1000x1000 : Shape := ⟨2, ![1000, 1000]⟩
abbrev S1 : Shape := ⟨1, ![1]⟩
abbrev S1000x6 : Shape := ⟨2, ![1000, 6]⟩

abbrev nBuf : Space → Nat
  | .hbm => 213
  | .vmem => 0
  | .smem => 0
  | _ => 0

abbrev hbmTy0_0 (i : Nat) : BufTy := match i % 128 with
  | 0 => ⟨S20000x20, .f32⟩
  | 1 => ⟨S20000x4, .f32⟩
  | 2 => ⟨S20000x2, .f32⟩
  | 3 => ⟨S20000x2, .f32⟩
  | 4 => ⟨S_, .f32⟩
  | 5 => ⟨S20000x2, .f32⟩
  | 6 => ⟨S20000x2, .f32⟩
  | 7 => ⟨S20000x2, .f32⟩
  | 8 => ⟨S20000x2, .f32⟩
  | 9 => ⟨S20000x2, .f32⟩
  | 10 => ⟨S_, .f32⟩
  | 11 => ⟨S20000x2, .f32⟩
  | 12 => ⟨S20000x2, .f32⟩
  | 13 => ⟨S_, .f32⟩
  | 14 => ⟨S20000x2, .f32⟩
  | 15 => ⟨S20000x2, .f32⟩
  | 16 => ⟨S20000x2, .f32⟩
  | 17 => ⟨S_, .f32⟩
  | 18 => ⟨S20000x2, .f32⟩
  | 19 => ⟨S20000x2, .f32⟩
  | 20 => ⟨S20000x2, .f32⟩
  | 21 => ⟨S20000x4, .f32⟩
  | 22 => ⟨S20000x20, .f32⟩
  | 23 => ⟨S20000x20, .f32⟩
  | 24 => ⟨S_, .f32⟩
  | 25 => ⟨S20000x20, .f32⟩
  | 26 => ⟨S20000x20, .f32⟩
  | 27 => ⟨S_, .f32⟩
  | 28 => ⟨S20000x20, .f32⟩
  | 29 => ⟨S20000x20, .f32⟩
  | 30 => ⟨S400000, .f32⟩
  | 31 => ⟨S1000, .f32⟩
  | 32 => ⟨S1000, .i32⟩
  | 33 => ⟨S_, .f32⟩
  | 34 => ⟨S1000, .f32⟩
  | 35 => ⟨S1000, .i1⟩
  | 36 => ⟨S_, .i32⟩
  | 37 => ⟨S_, .i32⟩
  | 38 => ⟨S1000, .i32⟩
  | 39 => ⟨S1000, .i32⟩
  | 40 => ⟨S1000, .i32⟩
  | 41 => ⟨S_, .i32⟩
  | 42 => ⟨S1000, .i32⟩
  | 43 => ⟨S1000, .i1⟩
  | 44 => ⟨S1000, .i32⟩
  | 45 => ⟨S1000, .i32⟩
  | 46 => ⟨S_, .i32⟩
  | 47 => ⟨S1000, .i32⟩
  | 48 => ⟨S1000, .i1⟩
  | 49 => ⟨S1000, .i1⟩
  | 50 => ⟨S_, .i32⟩
  | 51 => ⟨S1000, .i32⟩
  | 52 => ⟨S1000, .i32⟩
  | 53 => ⟨S1000, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S1000, .i32⟩
  | 61 => ⟨S1000, .i32⟩
  | 62 => ⟨S_, .i32⟩
  | 63 => ⟨S1000, .i32⟩
  | 64 => ⟨S1000, .i1⟩
  | 65 => ⟨S_, .i32⟩
  | 66 => ⟨S1000, .i32⟩
  | 67 => ⟨S1000, .i1⟩
  | 68 => ⟨S_, .i32⟩
  | 69 => ⟨S_, .i1⟩
  | 70 => ⟨S1000, .i1⟩
  | 71 => ⟨S1000, .i1⟩
  | 72 => ⟨S1000, .i1⟩
  | 73 => ⟨S1000, .i32⟩
  | 74 => ⟨S1000, .i32⟩
  | 75 => ⟨S1000, .i32⟩
  | 76 => ⟨S_, .i32⟩
  | 77 => ⟨S1000, .i32⟩
  | 78 => ⟨S1000, .i1⟩
  | 79 => ⟨S_, .i32⟩
  | 80 => ⟨S1000, .i32⟩
  | 81 => ⟨S1000, .i32⟩
  | 82 => ⟨S1000, .i32⟩
  | 83 => ⟨S1000x1, .i32⟩
  | 84 => ⟨S1000x4, .f32⟩
  | 85 => ⟨S_, .f32⟩
  | 86 => ⟨S_, .f32⟩
  | 87 => ⟨S1000, .f32⟩
  | 88 => ⟨S_, .f32⟩
  | 89 => ⟨S_, .f32⟩
  | 90 => ⟨S1000, .f32⟩
  | 91 => ⟨S1000, .f32⟩
  | 92 => ⟨S1000x1, .f32⟩
  | 93 => ⟨S1000x4, .f32⟩
  | 94 => ⟨S1000x4, .f32⟩
  | 95 => ⟨S1000x1, .f32⟩
  | 96 => ⟨S1000, .f32⟩
  | 97 => ⟨S1000x1, .f32⟩
  | 98 => ⟨S1000, .f32⟩
  | 99 => ⟨S1000x1, .f32⟩
  | 100 => ⟨S1000, .f32⟩
  | 101 => ⟨S1000x1, .f32⟩
  | 102 => ⟨S1000, .f32⟩
  | 103 => ⟨S1000, .f32⟩
  | 104 => ⟨S_, .i32⟩
  | 105 => ⟨S_, .f32⟩
  | 106 => ⟨S1000, .f32⟩
  | 107 => ⟨S1000, .f32⟩
  | 108 => ⟨S1000, .f32⟩
  | 109 => ⟨S_, .i32⟩
  | 110 => ⟨S_, .f32⟩
  | 111 => ⟨S1000, .f32⟩
  | 112 => ⟨S1000, .f32⟩
  | 113 => ⟨S1000, .f32⟩
  | 114 => ⟨S1000x1, .f32⟩
  | 115 => ⟨S1x1000, .f32⟩
  | 116 => ⟨S1000x1000, .f32⟩
  | 117 => ⟨S1000x1000, .f32⟩
  | 118 => ⟨S1000x1000, .f32⟩
  | 119 => ⟨S1000x1, .f32⟩
  | 120 => ⟨S1x1000, .f32⟩
  | 121 => ⟨S1000x1000, .f32⟩
  | 122 => ⟨S1000x1000, .f32⟩
  | 123 => ⟨S1000x1000, .f32⟩
  | 124 => ⟨S1000x1, .f32⟩
  | 125 => ⟨S1x1000, .f32⟩
  | 126 => ⟨S1000x1000, .f32⟩
  | 127 => ⟨S1000x1000, .f32⟩
  | _ => ⟨S20000x20, .f32⟩

abbrev hbmTy0_1 (i : Nat) : BufTy := match i % 128 with
  | 0 => ⟨S1000x1000, .f32⟩
  | 1 => ⟨S1000x1, .f32⟩
  | 2 => ⟨S1x1000, .f32⟩
  | 3 => ⟨S1000x1000, .f32⟩
  | 4 => ⟨S1000x1000, .f32⟩
  | 5 => ⟨S1000x1000, .f32⟩
  | 6 => ⟨S1000x1000, .f32⟩
  | 7 => ⟨S_, .i32⟩
  | 8 => ⟨S_, .f32⟩
  | 9 => ⟨S1000x1000, .f32⟩
  | 10 => ⟨S1000x1000, .f32⟩
  | 11 => ⟨S1000x1000, .f32⟩
  | 12 => ⟨S_, .i32⟩
  | 13 => ⟨S_, .f32⟩
  | 14 => ⟨S1000x1000, .f32⟩
  | 15 => ⟨S1000x1000, .f32⟩
  | 16 => ⟨S1000x1000, .f32⟩
  | 17 => ⟨S1000x1, .f32⟩
  | 18 => ⟨S1x1000, .f32⟩
  | 19 => ⟨S1000x1000, .f32⟩
  | 20 => ⟨S1000x1000, .f32⟩
  | 21 => ⟨S1000x1000, .f32⟩
  | 22 => ⟨S1000x1000, .f32⟩
  | 23 => ⟨S_, .f32⟩
  | 24 => ⟨S1000x1000, .f32⟩
  | 25 => ⟨S1000x1000, .f32⟩
  | 26 => ⟨S1000x1000, .f32⟩
  | 27 => ⟨S1000, .i32⟩
  | 28 => ⟨S_, .i32⟩
  | 29 => ⟨S_, .i32⟩
  | 30 => ⟨S1000x1000, .f32⟩
  | 31 => ⟨S1000, .i32⟩
  | 32 => ⟨S_, .i32⟩
  | 33 => ⟨S_, .i32⟩
  | 34 => ⟨S1000, .i1⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1x1000, .f32⟩
  | 54 => ⟨S1000, .f32⟩
  | 55 => ⟨S_, .f32⟩
  | 56 => ⟨S1000, .f32⟩
  | 57 => ⟨S1000, .i1⟩
  | 58 => ⟨S_, .i32⟩
  | 59 => ⟨S1000, .i32⟩
  | 60 => ⟨S1000, .i1⟩
  | 61 => ⟨S1000, .i1⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1, .i1⟩
  | 69 => ⟨S_, .i1⟩
  | 70 => ⟨S1000, .i1⟩
  | 71 => ⟨S1000, .i1⟩
  | 72 => ⟨S1000, .i1⟩
  | 73 => ⟨S1000, .i1⟩
  | 74 => ⟨S_, .i32⟩
  | 75 => ⟨S_, .i32⟩
  | 76 => ⟨S1000, .f32⟩
  | 77 => ⟨S1000x1, .f32⟩
  | 78 => ⟨S1000x4, .f32⟩
  | 79 => ⟨S1000x4, .f32⟩
  | 80 => ⟨S1000, .f32⟩
  | 81 => ⟨S1000x1, .f32⟩
  | 82 => ⟨S1000, .f32⟩
  | 83 => ⟨S1000x1, .f32⟩
  | 84 => ⟨S1000x6, .f32⟩
  | _ => ⟨S20000x20, .f32⟩

abbrev hbmTy (i : Nat) : BufTy := match i / 128 with
  | 0 => hbmTy0_0 i
  | 1 => hbmTy0_1 i
  | _ => ⟨S20000x20, .f32⟩

abbrev bufTy : (tb : Table) → Fin (tcTables nBuf tb) → BufTy
  | .hbm, ⟨i, _⟩ => hbmTy i
  | _, _ => ⟨S20000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_values : Ref sig .tc := ⟨.hbm, 31, rfl⟩
abbrev main_indices : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v24 : Ref sig .tc := ⟨.hbm, 53, rfl⟩
abbrev main_c_6 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v25 : Ref sig .tc := ⟨.hbm, 75, rfl⟩
abbrev main_c_7 : Ref sig .tc := ⟨.hbm, 76, rfl⟩
abbrev main_v26 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_9 : Ref sig .tc := ⟨.hbm, 85, rfl⟩
abbrev main_v33 : Ref sig .tc := ⟨.hbm, 86, rfl⟩
abbrev main_v34 : Ref sig .tc := ⟨.hbm, 87, rfl⟩
abbrev main_cst_10 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c_11 : Ref sig .tc := ⟨.hbm, 104, rfl⟩
abbrev main_call2_v0 : Ref sig .tc := ⟨.hbm, 105, rfl⟩
abbrev main_call2_v1 : Ref sig .tc := ⟨.hbm, 106, rfl⟩
abbrev main_v50 : Ref sig .tc := ⟨.hbm, 107, rfl⟩
abbrev main_v51 : Ref sig .tc := ⟨.hbm, 108, rfl⟩
abbrev main_c_12 : Ref sig .tc := ⟨.hbm, 109, rfl⟩
abbrev main_call3_v0 : Ref sig .tc := ⟨.hbm, 110, rfl⟩
abbrev main_call3_v1 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_c_13 : Ref sig .tc := ⟨.hbm, 135, rfl⟩
abbrev main_call4_v0 : Ref sig .tc := ⟨.hbm, 136, rfl⟩
abbrev main_call4_v1 : Ref sig .tc := ⟨.hbm, 137, rfl⟩
abbrev main_v75 : Ref sig .tc := ⟨.hbm, 138, rfl⟩
abbrev main_v76 : Ref sig .tc := ⟨.hbm, 139, rfl⟩
abbrev main_c_14 : Ref sig .tc := ⟨.hbm, 140, rfl⟩
abbrev main_call5_v0 : Ref sig .tc := ⟨.hbm, 141, rfl⟩
abbrev main_call5_v1 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_15 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_c_16 : Ref sig .tc := ⟨.hbm, 156, rfl⟩
abbrev main_c_17 : Ref sig .tc := ⟨.hbm, 157, rfl⟩
abbrev main_v89_0 : Ref sig .tc := ⟨.hbm, 158, rfl⟩
abbrev main_v89_1 : Ref sig .tc := ⟨.hbm, 159, rfl⟩
abbrev main_v89_2 : Ref sig .tc := ⟨.hbm, 160, rfl⟩
abbrev main_v89_3 : Ref sig .tc := ⟨.hbm, 161, rfl⟩
abbrev main_v89_4 : Ref sig .tc := ⟨.hbm, 162, rfl⟩
abbrev main_while0c_c_22 : Ref sig .tc := ⟨.hbm, 163, rfl⟩
abbrev main_while0c_v99 : Ref sig .tc := ⟨.hbm, 164, rfl⟩
abbrev main_while0b_c_22 : Ref sig .tc := ⟨.hbm, 165, rfl⟩
abbrev main_while0b_v99 : Ref sig .tc := ⟨.hbm, 166, rfl⟩
abbrev main_while0b_v100 : Ref sig .tc := ⟨.hbm, 167, rfl⟩
abbrev main_while0b_c_23 : Ref sig .tc := ⟨.hbm, 168, rfl⟩
abbrev main_while0b_v101 : Ref sig .tc := ⟨.hbm, 169, rfl⟩
abbrev main_while0b_c_24 : Ref sig .tc := ⟨.hbm, 170, rfl⟩
abbrev main_while0b_v102 : Ref sig .tc := ⟨.hbm, 171, rfl⟩
abbrev main_while0b_v103 : Ref sig .tc := ⟨.hbm, 172, rfl⟩
abbrev main_while0b_c_25 : Ref sig .tc := ⟨.hbm, 173, rfl⟩
abbrev main_while0b_c_26 : Ref sig .tc := ⟨.hbm, 174, rfl⟩
abbrev main_while0b_v104 : Ref sig .tc := ⟨.hbm, 175, rfl⟩
abbrev main_while0b_c_27 : Ref sig .tc := ⟨.hbm, 176, rfl⟩
abbrev main_while0b_c_28 : Ref sig .tc := ⟨.hbm, 177, rfl⟩
abbrev main_while0b_v105 : Ref sig .tc := ⟨.hbm, 178, rfl⟩
abbrev main_while0b_c_29 : Ref sig .tc := ⟨.hbm, 179, rfl⟩
abbrev main_while0b_v106 : Ref sig .tc := ⟨.hbm, 180, rfl⟩
abbrev main_while0b_v107 : Ref sig .tc := ⟨.hbm, 181, rfl⟩
abbrev main_while0b_v108 : Ref sig .tc := ⟨.hbm, 182, rfl⟩
abbrev main_while0b_cst_30 : Ref sig .tc := ⟨.hbm, 183, rfl⟩
abbrev main_while0b_v109 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_c_31 : Ref sig .tc := ⟨.hbm, 190, rfl⟩
abbrev main_while0b_v115 : Ref sig .tc := ⟨.hbm, 191, rfl⟩
abbrev main_while0b_v116 : Ref sig .tc := ⟨.hbm, 192, rfl⟩
abbrev main_while0b_c_32 : Ref sig .tc := ⟨.hbm, 193, rfl⟩
abbrev main_while0b_v117 : Ref sig .tc := ⟨.hbm, 194, rfl⟩
abbrev main_while0b_v118 : Ref sig .tc := ⟨.hbm, 195, rfl⟩
abbrev main_while0b_v119 : Ref sig .tc := ⟨.hbm, 196, rfl⟩
abbrev main_while0b_v120 : Ref sig .tc := ⟨.hbm, 197, rfl⟩
abbrev main_while0b_v121 : Ref sig .tc := ⟨.hbm, 198, rfl⟩
abbrev main_while0b_v122 : Ref sig .tc := ⟨.hbm, 199, rfl⟩
abbrev main_while0b_v123 : Ref sig .tc := ⟨.hbm, 200, rfl⟩
abbrev main_while0b_v124 : Ref sig .tc := ⟨.hbm, 201, rfl⟩
abbrev main_while0b_c_33 : Ref sig .tc := ⟨.hbm, 202, rfl⟩
abbrev main_while0b_v125 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩

abbrev nD : Nat := 1
abbrev τ : Topo := Topo.v7x

variable {F : FTy → Type} [FloatOps F]

abbrev main_while0_count : Scf.Loop 32 := ⟨0#32, 1000#32, 1#32⟩
-- ==== Proof.Spec.lean ====
/-
  What the program computes, as plain functions on extended reals.

  A thousand candidates, each with a score, a box (two corners, four coordinates) and a class label. Every box is moved
  by its label times one more than the largest coordinate, so boxes of different classes do not meet; candidates are
  walked in order, and one that is still kept drops every later one whose overlap with it passes a threshold.
-/
module

public import Idealize.ShloMosaic.Lib.Pointwise

@[expose] public section
noncomputable section
open Idealize.ShloMosaic

namespace Cert.Proof.Spec

/-- The centre coordinate: the anchor moved by the predicted shift times the stride. -/
def ctr (a : Fin 2 → EReal) (r : Fin 4 → EReal) (d : Fin 2) : EReal :=
  a d + r (Fin.castLE (by decide) d) * Ideal.ofBits .f32 0x41000000#32

/-- The extent: the exponential of the predicted size, times the stride. -/
def ext (r : Fin 4 → EReal) (d : Fin 2) : EReal :=
  Ideal.exp (r (Fin.natAdd 2 d)) * Ideal.ofBits .f32 0x41000000#32

/-- The lower corner of a box. -/
def lo (a : Fin 2 → EReal) (r : Fin 4 → EReal) (d : Fin 2) : EReal :=
  ctr a r d - Ideal.ofBits .f32 0x3F000000#32 * ext r d

/-- The upper corner of a box. -/
def hi (a : Fin 2 → EReal) (r : Fin 4 → EReal) (d : Fin 2) : EReal :=
  ctr a r d + Ideal.ofBits .f32 0x3F000000#32 * ext r d

/-- The box of an anchor and a prediction: lower corner, then upper corner. -/
def decode (a : Fin 2 → EReal) (r : Fin 4 → EReal) (c : Fin 4) : EReal :=
  if h : c.val < 2 then lo a r ⟨c.val, h⟩ else hi a r ⟨c.val - 2, by omega⟩

variable (s : Fin 1000 → EReal) (B : Fin 1000 → Fin 4 → EReal) (l : Fin 1000 → EReal)

/-- The largest coordinate of all boxes. -/
def top : EReal := Finset.univ.fold max ⊥ fun x : Fin 1000 × Fin 4 => B x.1 x.2

/-- The boxes moved apart by class. -/
def moved (k : Fin 1000) (c : Fin 4) : EReal := B k c + l k * (top B + 1)

/-- The area of a box. -/
def area (P : Fin 1000 → Fin 4 → EReal) (k : Fin 1000) : EReal :=
  max (P k 2 - P k 0) 0 * max (P k 3 - P k 1) 0

/-- The area two boxes share. -/
def inter (P : Fin 1000 → Fin 4 → EReal) (i j : Fin 1000) : EReal :=
  max (min (P i 2) (P j 2) - max (P i 0) (P j 0)) 0 * max (min (P i 3) (P j 3) - max (P i 1) (P j 1)) 0

/-- The shared area over the joint area. -/
def iou (P : Fin 1000 → Fin 4 → EReal) (i j : Fin 1000) : EReal :=
  Ideal.div (inter P i j) (max (area P i + area P j - inter P i j) (Ideal.ofBits .f32 0x3089705F#32))

/-- Candidate `i` drops candidate `j`: their overlap passes the threshold, `j` is later, and `i` is kept. -/
def drops (P : Fin 1000 → Fin 4 → EReal) (K : Fin 1000 → Prop) (i j : Fin 1000) : Prop :=
  Ideal.ofBits .f32 0x3F19999A#32 < iou P i j ∧ i < j ∧ K i

/-- Who is kept after the first `n` candidates were walked. -/
def keep (P : Fin 1000 → Fin 4 → EReal) : ℕ → Fin 1000 → Prop
  | 0 => fun j => Ideal.ofBits .f32 0x3D4CCCCD#32 < s j
  | n + 1 => fun j => keep P n j ∧ ∀ h : n < 1000, ¬ drops P (keep P n) ⟨n, h⟩ j

open Classical in
/-- One for a kept candidate, zero for another. -/
def mask (j : Fin 1000) : EReal := if keep s (moved B l) 1000 j then 1 else 0

/-- A row of the result: the kept box, the kept score, the label. -/
def out (j : Fin 1000) (c : Fin 6) : EReal :=
  if h : c.val < 4 then B j ⟨c.val, h⟩ * mask s B l j
  else if c.val = 4 then s j * mask s B l j else l j

end Cert.Proof.Spec
end
-- ==== Proof.TopK.lean ====
/-
  The greatest `K` of a long list, taken from the greatest `K` of each of its chunks.

  A stable sort in decreasing order is the sort by value and then by position, which is a strict total order. Cut a list
  in chunks, take the `K` greatest of each chunk in order, and sort those candidates: its first `K` places come from the
  same positions as the first `K` places of the sort of the whole list.
-/
module

public import Idealize.ShloMosaic.Lib.SortPrefix
public import Mathlib.Data.EReal.Basic

@[expose] public section
noncomputable section
open Idealize.ShloMosaic

namespace Cert.Proof.TopK

/-- Place `a` is before place `b` in decreasing order of the values. -/
def desc {n : ℕ} (x : Fin n → EReal) (a b : Fin n) : Bool := decide (x b < x a)

/-- The same, equal values in the order of their places. -/
def descPos {n : ℕ} (x : Fin n → EReal) (a b : Fin n) : Bool :=
  decide (x b < x a) || (decide (x a = x b) && decide (a < b))

/-- The order of places: greater values first, and equal values in the order of the list. -/
theorem descPos_iff {n : ℕ} (x : Fin n → EReal) (a b : Fin n) :
    descPos x a b = true ↔ x b < x a ∨ (x a = x b ∧ a < b) := by
  simp [descPos]

/-- Value, then place, is a strict total order. -/
theorem descPos_total {n : ℕ} (x : Fin n → EReal) : StrictTotalBefore (descPos x) where
  irrefl a := by simp [descPos]
  trans a b c hab hbc := by
    rw [descPos_iff] at *
    rcases hab with h | ⟨h, h'⟩ <;> rcases hbc with g | ⟨g, g'⟩
    · exact Or.inl (lt_trans g h)
    · exact Or.inl (g ▸ h)
    · exact Or.inl (h ▸ g)
    · exact Or.inr ⟨h.trans g, lt_trans h' g'⟩
  total a b hne := by
    rw [descPos_iff, descPos_iff]
    rcases lt_trichotomy (x a) (x b) with h | h | h
    · exact Or.inr (Or.inl h)
    · rcases lt_or_gt_of_ne hne with g | g
      · exact Or.inl (Or.inr ⟨h, g⟩)
      · exact Or.inr (Or.inr ⟨h.symm, g⟩)
    · exact Or.inl (Or.inl h)

/-- A stable sort only asks whether a later element is before an earlier one. -/
theorem stableSort_of_pairwise {ι : Type} (R R' : ι → ι → Bool) (l : List ι)
    (h : l.Pairwise fun a b => R b a = R' b a) : stableSort R l = stableSort R' l := by
  induction l with
  | nil => rfl
  | cons a l ih =>
    rw [List.pairwise_cons] at h
    show insertBefore R a (stableSort R l) = insertBefore R' a (stableSort R' l)
    rw [ih h.2]
    exact insertBefore_congr _ _ _ _ fun b hb => h.1 b ((perm_stableSort R' l).mem_iff.mp hb)

/-- The stable sort in decreasing order is the sort by value and then place. -/
theorem sortedFrom_desc {n : ℕ} (x : Fin n → EReal) : sortedFrom (desc x) = sortedFrom (descPos x) := by
  have e : sortPositions n (desc x) = sortPositions n (descPos x) := by
    refine stableSort_of_pairwise _ _ _ ((List.pairwise_lt_finRange n).imp fun {a b} hab => ?_)
    simp [desc, descPos, not_lt_of_gt hab]
  funext k
  unfold sortedFrom
  rw [List.get_of_eq e]
  rfl

/-- Under a strict total order the sorted places are strictly in order. -/
theorem sorted_lt {n : ℕ} {B : Fin n → Fin n → Bool} (hB : StrictTotalBefore B) {i j : Fin n} (hij : i < j) :
    B (sortedFrom B i) (sortedFrom B j) = true := by
  have h := sortedFrom_noInversion B B (fun a b h => hB.asymm a b h) (fun _ _ h => h) hB.negTrans i j hij
  rcases hB.total (sortedFrom B i) (sortedFrom B j) (fun e => (ne_of_lt hij) (sortedFrom_injective B e)) with g | g
  · exact g
  · rw [h] at g; exact absurd g (by decide)

/-- And only those in order are before one another. -/
theorem lt_of_sorted {n : ℕ} {B : Fin n → Fin n → Bool} (hB : StrictTotalBefore B) {i j : Fin n}
    (h : B (sortedFrom B i) (sortedFrom B j) = true) : i < j := by
  by_contra hn
  rcases eq_or_lt_of_le (not_lt.mp hn) with e | g
  · rw [e, hB.irrefl] at h; exact absurd h (by decide)
  · have := hB.asymm _ _ (sorted_lt hB g)
    rw [this] at h; exact absurd h (by decide)

section Merge
variable {C n K N M : ℕ}

/-- Place `j` of chunk `c`. -/
def chunk (hN : C * n = N) (c : Fin C) (j : Fin n) : Fin N :=
  ⟨c.val * n + j.val, by
    have h1 : c.val * n + n ≤ C * n := by rw [← Nat.succ_mul]; exact Nat.mul_le_mul_right n c.isLt
    have := j.isLt; omega⟩

/-- The chunk of a candidate. -/
def cOf (hM : C * K = M) (p : Fin M) : Fin C :=
  ⟨p.val / K, Nat.div_lt_of_lt_mul (by rw [Nat.mul_comm, hM]; exact p.isLt)⟩

/-- The rank of a candidate in its chunk. -/
def jOf (hK : K ≤ n) (hK0 : 0 < K) (p : Fin M) : Fin n := ⟨p.val % K, lt_of_lt_of_le (Nat.mod_lt _ hK0) hK⟩

/-- The place in its chunk of the chunk's value of rank `j`. -/
def rank (hN : C * n = N) (x : Fin N → EReal) (c : Fin C) : Fin n → Fin n :=
  sortedFrom (desc fun j => x (chunk hN c j))

/-- The place in the whole list of a candidate. -/
def src (hN : C * n = N) (hM : C * K = M) (hK : K ≤ n) (hK0 : 0 < K) (x : Fin N → EReal) (p : Fin M) : Fin N :=
  chunk hN (cOf hM p) (rank hN x (cOf hM p) (jOf hK hK0 p))

/-- In one chunk, a value of smaller rank is before one of greater rank. -/
theorem chunk_before (hN : C * n = N) (x : Fin N → EReal) (c : Fin C) {i j : Fin n} (hij : i < j) :
    descPos x (chunk hN c (rank hN x c i)) (chunk hN c (rank hN x c j)) = true := by
  have h := sorted_lt (descPos_total fun j => x (chunk hN c j)) hij
  rw [← sortedFrom_desc] at h
  rw [descPos_iff] at h ⊢
  rcases h with h | ⟨h, h'⟩
  · exact Or.inl h
  · exact Or.inr ⟨h, by
      show c.val * n + (rank hN x c i).val < c.val * n + (rank hN x c j).val
      exact Nat.add_lt_add_left h' _⟩

/-- Candidates in order are in order in the whole list. -/
theorem src_before (hN : C * n = N) (hM : C * K = M) (hK : K ≤ n) (hK0 : 0 < K) (x : Fin N → EReal) {p q : Fin M}
    (h : descPos (fun p => x (src hN hM hK hK0 x p)) p q = true) :
    descPos x (src hN hM hK hK0 x p) (src hN hM hK hK0 x q) = true := by
  rw [descPos_iff] at h
  rcases h with h | ⟨h, hpq⟩
  · exact (descPos_iff ..).mpr (Or.inl h)
  · rcases lt_or_eq_of_le (Nat.div_le_div_right (c := K) (le_of_lt hpq) : p.val / K ≤ q.val / K) with hc | hc
    · refine (descPos_iff ..).mpr (Or.inr ⟨h, ?_⟩)
      show p.val / K * n + (rank hN x (cOf hM p) (jOf hK hK0 p)).val < q.val / K * n + (rank hN x (cOf hM q) (jOf hK hK0 q)).val
      have h1 : p.val / K * n + n ≤ q.val / K * n := by rw [← Nat.succ_mul]; exact Nat.mul_le_mul_right n hc
      have := (rank hN x (cOf hM p) (jOf hK hK0 p)).isLt
      omega
    · have ec : cOf hM q = cOf hM p := Fin.ext hc.symm
      have hj : jOf hK hK0 p < jOf (n := n) hK hK0 q := by
        show p.val % K < q.val % K
        have e1 := Nat.div_add_mod p.val K
        have e2 := Nat.div_add_mod q.val K
        rw [← hc] at e2
        have : p.val < q.val := hpq
        omega
      have := chunk_before hN x (cOf hM p) hj
      unfold src
      rw [ec]
      exact this

/-- The converse: the order of the candidates is total. -/
theorem before_of_src (hN : C * n = N) (hM : C * K = M) (hK : K ≤ n) (hK0 : 0 < K) (x : Fin N → EReal) {p q : Fin M}
    (h : descPos x (src hN hM hK hK0 x p) (src hN hM hK hK0 x q) = true) :
    descPos (fun p => x (src hN hM hK hK0 x p)) p q = true := by
  have hB := descPos_total x
  have hpq : p ≠ q := fun e => by rw [e, hB.irrefl] at h; exact absurd h (by decide)
  rcases (descPos_total fun p => x (src hN hM hK hK0 x p)).total p q hpq with g | g
  · exact g
  · have := hB.asymm _ _ (src_before hN hM hK hK0 x g)
    rw [this] at h; exact absurd h (by decide)

/-- Different candidates are at different places. -/
theorem src_injective (hN : C * n = N) (hM : C * K = M) (hK : K ≤ n) (hK0 : 0 < K) (x : Fin N → EReal) : Function.Injective (src hN hM hK hK0 x) := by
  intro p q e
  by_contra hpq
  have hB := descPos_total x
  rcases (descPos_total fun p => x (src hN hM hK hK0 x p)).total p q hpq with g | g
  · have := src_before hN hM hK hK0 x g
    rw [e, hB.irrefl] at this; exact absurd this (by decide)
  · have := src_before hN hM hK hK0 x g
    rw [e, hB.irrefl] at this; exact absurd this (by decide)

/-- A place before a candidate of rank below `K` is itself a candidate: otherwise the `K` first of its chunk all come
    before it, and `K` candidates rank below that one. -/
theorem mem_src (hN : C * n = N) (hM : C * K = M) (hK : K ≤ n) (hK0 : 0 < K) (x : Fin N → EReal) (i : Fin M) (hi : i.val < K) (p : Fin N)
    (h : descPos x p (src hN hM hK hK0 x
      (sortedFrom (descPos fun p => x (src hN hM hK hK0 x p)) i)) = true) :
    ∃ q, src hN hM hK hK0 x q = p := by
  classical
  by_contra hno
  have hn : 0 < n := lt_of_lt_of_le hK0 hK
  have hp : p.val < C * n := by rw [hN]; exact p.isLt
  let c : Fin C := ⟨p.val / n, Nat.div_lt_of_lt_mul (by rwa [Nat.mul_comm])⟩
  let b : Fin n := ⟨p.val % n, Nat.mod_lt _ hn⟩
  have hcb : chunk hN c b = p := Fin.ext (by
    show p.val / n * n + p.val % n = p.val
    rw [Nat.mul_comm]; exact Nat.div_add_mod _ _)
  obtain ⟨m, hm⟩ := sortedFrom_surjective (desc fun j => x (chunk hN c j)) b
  have hpm : chunk hN c (rank hN x c m) = p := by rw [← hcb, ← hm]; rfl
  let at' : Fin K → Fin M := fun j => ⟨c.val * K + j.val, by
    have h1 : c.val * K + K ≤ C * K := by rw [← Nat.succ_mul]; exact Nat.mul_le_mul_right K c.isLt
    have := j.isLt; omega⟩
  have hat : ∀ j : Fin K, src hN hM hK hK0 x (at' j) = chunk hN c (rank hN x c (j.castLE hK)) := fun j => by
    have e1 : cOf hM (at' j) = c := Fin.ext (by
      show (c.val * K + j.val) / K = c.val
      rw [Nat.mul_comm, Nat.mul_add_div hK0, Nat.div_eq_of_lt j.isLt, Nat.add_zero])
    have e2 : jOf hK hK0 (at' j) = j.castLE hK := Fin.ext (by
      show (c.val * K + j.val) % K = j.val
      rw [Nat.mul_comm, Nat.mul_add_mod, Nat.mod_eq_of_lt j.isLt])
    unfold src
    rw [e1, e2]
  have hmK : K ≤ m.val := by
    by_contra hlt
    refine hno ⟨at' ⟨m.val, not_le.mp hlt⟩, ?_⟩
    rw [hat]; exact hpm
  let B' := descPos fun p => x (src hN hM hK hK0 x p)
  have hB' : StrictTotalBefore B' := descPos_total _
  have hall : ∀ j : Fin K, ∃ k : Fin M, sortedFrom B' k = at' j := fun j => sortedFrom_surjective B' (at' j)
  choose k hk using hall
  have hlt : ∀ j, k j < i := fun j => by
    apply lt_of_sorted hB'
    rw [hk]
    apply before_of_src hN hM hK hK0 x
    refine (descPos_total x).trans _ p _ ?_ h
    rw [hat, ← hpm]
    exact chunk_before hN x c (show j.val < m.val from lt_of_lt_of_le j.isLt hmK)
  have hinj : Function.Injective fun j : Fin K => (⟨(k j).val, hlt j⟩ : Fin i.val) := fun j j' e => by
    have e1 : k j = k j' := Fin.ext (Fin.mk.inj e)
    have e2 : at' j = at' j' := by rw [← hk, ← hk, e1]
    have e3 : c.val * K + j.val = c.val * K + j'.val := congrArg Fin.val e2
    exact Fin.ext (by omega)
  have := Fintype.card_le_of_injective _ hinj
  simp only [Fintype.card_fin] at this
  omega

/-- The `K` greatest of a list, in order, are the `K` greatest of the candidates, in order. -/
theorem merge (hN : C * n = N) (hM : C * K = M) (hK : K ≤ n) (hK0 : 0 < K) (x : Fin N → EReal) (hKN : K ≤ N) (hKM : K ≤ M) (i : Fin K) :
    sortedFrom (desc x) (i.castLE hKN)
      = src hN hM hK hK0 x (sortedFrom (desc fun p => x (src hN hM hK hK0 x p)) (i.castLE hKM)) := by
  rw [sortedFrom_desc, sortedFrom_desc]
  have hB := descPos_total x
  have hB' := descPos_total fun p => x (src hN hM hK hK0 x p)
  refine hB.sortedFrom_eq_of_prefix hKN (fun i => src hN hM hK hK0 x
    (sortedFrom (descPos fun p => x (src hN hM hK hK0 x p)) (i.castLE hKM))) ?_ ?_ ?_ i
  · intro a b e
    have := sortedFrom_injective _ (src_injective hN hM hK hK0 x e)
    exact Fin.castLE_injective hKM this
  · intro a b hab
    exact hB.asymm _ _ (src_before hN hM hK hK0 x (sorted_lt hB' (show a.castLE hKM < b.castLE hKM from hab)))
  · intro a p hp
    by_contra hne
    have h : descPos x p (src hN hM hK hK0 x
      (sortedFrom (descPos fun p => x (src hN hM hK hK0 x p)) (a.castLE hKM))) = true := by
      simpa using hne
    obtain ⟨q, hq⟩ := mem_src hN hM hK hK0 x (a.castLE hKM) a.isLt p h
    obtain ⟨k, hk⟩ := sortedFrom_surjective (descPos fun p => x (src hN hM hK hK0 x p)) q
    rw [← hq, ← hk] at h
    have hlt := lt_of_sorted hB' (before_of_src hN hM hK hK0 x h)
    have hkK : k.val < K := lt_trans (show k.val < a.val from hlt) a.isLt
    exact hp ⟨k.val, hkK⟩ (by rw [← hq, ← hk]; rfl)

end Merge

end Cert.Proof.TopK
end
-- ==== Proof.Rows.lean ====
/-
  A gather of whole rows read at an index: the table's row at the start index, read signed and clamped into the table.
-/
module

public import Idealize.ShloMosaic.Lib.Pointwise

@[expose] public section
noncomputable section
open Idealize.ShloMosaic

namespace Cert.Proof.Rows

/-- A row number: a word read signed and clamped into a table of `N` rows. -/
def row {N : ℕ} (hN : 0 < N) (w : BitVec 32) : Fin N := ⟨min w.toInt.toNat (N - 1), by omega⟩

/-- The dimension numbers of a gather of `n` rows out of `N`, of `B` entries each. -/
abbrev rowDims (N B n : ℕ)
    (wf : GatherDims.WF ⟨2, ![N, B]⟩ ⟨2, ![n, 1]⟩ ⟨2, ![n, B]⟩ [1] [0] [] [0] [] 1 ![1, B]) :
    GatherDims ⟨2, ![N, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

/-- The gather's entry `(i, b)` is entry `b` of the row that start index `i` names. -/
theorem gather_at {α : Type} {N B n : ℕ} (hN : 0 < N)
    (wf : GatherDims.WF ⟨2, ![N, B]⟩ ⟨2, ![n, 1]⟩ ⟨2, ![n, B]⟩ [1] [0] [] [0] [] 1 ![1, B])
    (x : (⟨2, ![N, B]⟩ : Shape).Idx → α) (idx : IVec ⟨2, ![n, 1]⟩ 32) (i : Fin n) (b : Fin B) :
    Host.gather (rowDims N B n wf) x idx (ix2 i b) = x (ix2 (row hN (idx (ix2 i 0))) b) := by
  refine congrArg x (funext fun a => Fin.ext ?_)
  show (rowDims N B n wf).start (ix2 i b) idx a + (rowDims N B n wf).batchCoord (ix2 i b) a
      + (rowDims N B n wf).offCoord (ix2 i b) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N B n wf).startIndexMap from List.mem_singleton.mpr rfl)]
    have hsi : (rowDims N B n wf).siIdx (ix2 i b) ⟨List.idxOf (0 : Fin 2) (rowDims N B n wf).startIndexMap,
        List.idxOf_lt_length_iff.2 (List.mem_singleton.mpr rfl)⟩ = ix2 i 0 := by
      funext k
      match k with
      | ⟨0, _⟩ => rfl
      | ⟨1, _⟩ => rfl
    rw [hsi]
    rfl
  · unfold GatherDims.start
    rw [dif_neg (show ¬ (1 : Fin 2) ∈ (rowDims N B n wf).startIndexMap from
      fun h => absurd (congrArg Fin.val (List.mem_singleton.mp h)) Nat.one_ne_zero), Nat.zero_add]
    rfl

end Cert.Proof.Rows
end
-- ==== Proof.Cand.lean ====
/-
  The candidates: which thousand entries of the score table come out, and the score, the box and the class of each.

  The table has 20000 rows of 20 classes. It is read as one list of 400000 sigmoids; the thousand greatest are the
  candidates. A candidate's row is its place divided by 20, its class the remainder, both as words of 32 bits.
-/
module

public import proofs.«01_k».proof.Proof.Spec
public import proofs.«01_k».proof.Proof.TopK
public import proofs.«01_k».proof.Proof.Rows

@[expose] public section
noncomputable section
open Idealize.ShloMosaic

namespace Cert.Proof.Cand
open Cert.Proof.TopK Cert.Proof.Rows

/-- The logistic function. -/
def sig (x : EReal) : EReal := Ideal.div 1 (1 + Ideal.exp (-x))

/-- The sign of a word: zero, one or minus one. -/
def sign (w : BitVec 32) : BitVec 32 := if w = 0 then 0 else if BitVec.msb w = true then -1 else 1

/-- A word divided by 20, rounded down. -/
def fdiv (w : BitVec 32) : BitVec 32 :=
  Scalar.select (IntOp.andi (IntOp.cmpi .ne (sign w) (sign 20#32)) (IntOp.cmpi .ne (IntOp.remsi .host w 20#32) 0#32))
    (IntOp.subi (IntOp.divsi .host w 20#32) 1#32) (IntOp.divsi .host w 20#32)

/-- The divisor of the remainder: 20, or one in place of zero. -/
def base : BitVec 32 := Scalar.select (IntOp.cmpi .eq 20#32 0#32) 1#32 20#32

/-- A word's remainder by 20, with the divisor's sign. -/
def fmod (w : BitVec 32) : BitVec 32 :=
  Scalar.select
    (IntOp.andi (IntOp.cmpi .ne (IntOp.cmpi .slt (IntOp.remsi .host w base) 0#32) (IntOp.cmpi .slt base 0#32))
      (IntOp.cmpi .ne (IntOp.remsi .host w base) 0#32))
    (IntOp.addi (IntOp.remsi .host w base) base) (IntOp.remsi .host w base)

/-- A row number counted from the end where it is negative. -/
def wrap (w : BitVec 32) : BitVec 32 := Scalar.select (IntOp.cmpi .slt w 0#32) (IntOp.addi w 20000#32) w

variable (cls : (⟨2, ![20000, 20]⟩ : Shape).Idx → EReal) (regs : (⟨2, ![20000, 4]⟩ : Shape).Idx → EReal)
  (anchors : (⟨2, ![20000, 2]⟩ : Shape).Idx → EReal)

/-- The score at a place of the list. -/
def flat (p : Fin 400000) : EReal := sig (cls (ix2 ⟨p.val / 20, by omega⟩ ⟨p.val % 20, by omega⟩))

/-- The place of candidate `i`. -/
def place (i : Fin 1000) : Fin 400000 := sortedFrom (desc (flat cls)) (i.castLE (by decide))

/-- The place as a word. -/
def placeWord (i : Fin 1000) : BitVec 32 := BitVec.ofNat 32 (place cls i).val

/-- The score of candidate `i`. -/
def score (i : Fin 1000) : EReal := flat cls (place cls i)

/-- The class of candidate `i`. -/
def label (i : Fin 1000) : EReal := FloatOps.sitofp (F := Ideal) .f32 (fmod (placeWord cls i))

/-- The table row of candidate `i`. -/
def rowOf (i : Fin 1000) : Fin 20000 := row (by decide) (wrap (fdiv (placeWord cls i)))

/-- The anchor of candidate `i`. -/
def anchor (i : Fin 1000) (d : Fin 2) : EReal := anchors (ix2 (rowOf cls i) d)

/-- The prediction of candidate `i`. -/
def pred (i : Fin 1000) (c : Fin 4) : EReal := regs (ix2 (rowOf cls i) c)

/-- The box of candidate `i`. -/
def box (i : Fin 1000) : Fin 4 → EReal := Spec.decode (anchor cls anchors i) (pred cls regs i)

/-- The result. -/
def result (j : Fin 1000) (c : Fin 6) : EReal := Spec.out (score cls) (box cls regs anchors) (label cls) j c

end Cert.Proof.Cand
end
-- ==== Proof.HostTop.lean ====
/-
  The host's top-k read at an index: the value at the place that the sort in decreasing order gives, and that place.
-/
module

public import proofs.«01_k».proof.Proof.TopK
public import Idealize.ShloMosaic.Lib.Pointwise

@[expose] public section
noncomputable section
open Idealize.ShloMosaic

namespace Cert.Proof.HostTop
open Cert.Proof.TopK

/-- "Greater in the total order" as a truth value. -/
theorem gt_decide (a b : EReal) :
    ((FloatOps.cmpfTotal (F := Ideal) (φ := .f32) .gt a b) == 1#1) = decide (b < a) := by
  show ((BitVec.ofBool (decide (b < a))) == 1#1) = decide (b < a)
  cases decide (b < a) <;> rfl

/-- Replacing the only coordinate of an index of a list. -/
theorem along1 {N : ℕ} (p k : Fin N) : (ix1 p).along 0 k = ix1 k := by
  funext a
  match a with
  | ⟨0, _⟩ => rfl

/-- Replacing the second coordinate of an index of a table. -/
theorem along2 {C N : ℕ} (c : Fin C) (p k : Fin N) : (ix2 c p).along 1 k = ix2 c k := by
  funext a
  match a with
  | ⟨0, _⟩ => rfl
  | ⟨1, _⟩ => rfl

/-- The slice at offset zero reads the same place. -/
theorem cut1 {α : Type} {N K : ℕ} (hK : K ≤ N) (x : (⟨1, ![N]⟩ : Shape).Idx → α)
    (h : (⟨1, ![N]⟩ : Shape).Slices (fun _ => 0) ⟨1, ![K]⟩) (i : Fin K) :
    extractStridedSlice ⟨1, ![K]⟩ (fun _ => 0) x h (ix1 i) = x (ix1 (i.castLE hK)) := by
  refine congrArg x (funext fun a => Fin.ext ?_)
  match a with
  | ⟨0, _⟩ => exact Nat.zero_add _

/-- The first columns cut out of a table, at a row and a column. -/
theorem cut2 {α : Type} {C N K : ℕ} (hK : K ≤ N) (x : (⟨2, ![C, N]⟩ : Shape).Idx → α)
    (h : (⟨2, ![C, N]⟩ : Shape).Slices (fun _ => 0) ⟨2, ![C, K]⟩) (c : Fin C) (i : Fin K) :
    extractStridedSlice ⟨2, ![C, K]⟩ (fun _ => 0) x h (ix2 c i) = x (ix2 c (i.castLE hK)) := by
  refine congrArg x (funext fun a => Fin.ext ?_)
  match a with
  | ⟨0, _⟩ => exact Nat.zero_add _
  | ⟨1, _⟩ => exact Nat.zero_add _

/-- The sort's comparison along the only axis is the decreasing order. -/
theorem cmp1 {N : ℕ} (x : (⟨1, ![N]⟩ : Shape).Idx → EReal) (p : Fin N) :
    (fun k k' : Fin N => FloatOps.cmpfTotal (F := Ideal) (φ := .f32) .gt (x ((ix1 p).along 0 k)) (x ((ix1 p).along 0 k')) == 1#1)
      = desc fun k => x (ix1 k) := by
  funext k k'
  rw [along1, along1, gt_decide]
  rfl

/-- The sort's comparison along the second axis is the decreasing order in the row. -/
theorem cmp2 {C N : ℕ} (x : (⟨2, ![C, N]⟩ : Shape).Idx → EReal) (c : Fin C) (p : Fin N) :
    (fun k k' : Fin N => FloatOps.cmpfTotal (F := Ideal) (φ := .f32) .gt (x ((ix2 c p).along 1 k)) (x ((ix2 c p).along 1 k')) == 1#1)
      = desc fun k => x (ix2 c k) := by
  funext k k'
  rw [along2, along2, gt_decide]
  rfl

variable {N K C : ℕ} (hK : K ≤ N)
include hK

/-- A list's greatest values. -/
theorem vals1 (x : (⟨1, ![N]⟩ : Shape).Idx → EReal) (h : (⟨1, ![N]⟩ : Shape).Slices (fun _ => 0) ⟨1, ![K]⟩) (i : Fin K) :
    (Host.topK ⟨1, ![K]⟩ 0 (FloatOps.cmpfTotal (F := Ideal) (φ := .f32) .gt) x h).1 (ix1 i)
      = x (ix1 (sortedFrom (desc fun k => x (ix1 k)) (i.castLE hK))) := by
  unfold Host.topK
  dsimp only
  rw [cut1 hK]
  unfold Host.sort2
  rw [dif_pos Nat.one_pos]
  exact (congrArg x (along1 (i.castLE hK) _)).trans
    (congrArg (fun B => x (ix1 (sortedFrom B (i.castLE hK)))) (cmp1 x (i.castLE hK)))

/-- The places of a list's greatest values. -/
theorem places1 (x : (⟨1, ![N]⟩ : Shape).Idx → EReal) (h : (⟨1, ![N]⟩ : Shape).Slices (fun _ => 0) ⟨1, ![K]⟩) (i : Fin K) :
    (Host.topK ⟨1, ![K]⟩ 0 (FloatOps.cmpfTotal (F := Ideal) (φ := .f32) .gt) x h).2 (ix1 i)
      = BitVec.ofNat 32 (sortedFrom (desc fun k => x (ix1 k)) (i.castLE hK)).val := by
  unfold Host.topK
  dsimp only
  rw [cut1 hK]
  unfold Host.sort2
  rw [dif_pos Nat.one_pos]
  dsimp only
  rw [dif_pos Nat.one_pos]
  exact (congrArg (fun j : (⟨1, ![N]⟩ : Shape).Idx => BitVec.ofNat 32 (j 0).val) (along1 (i.castLE hK) _)).trans
    (congrArg (fun B => BitVec.ofNat 32 (sortedFrom B (i.castLE hK)).val) (cmp1 x (i.castLE hK)))

/-- Every row's greatest values. -/
theorem vals2 (x : (⟨2, ![C, N]⟩ : Shape).Idx → EReal) (h : (⟨2, ![C, N]⟩ : Shape).Slices (fun _ => 0) ⟨2, ![C, K]⟩)
    (c : Fin C) (i : Fin K) :
    (Host.topK ⟨2, ![C, K]⟩ 1 (FloatOps.cmpfTotal (F := Ideal) (φ := .f32) .gt) x h).1 (ix2 c i)
      = x (ix2 c (sortedFrom (desc fun k => x (ix2 c k)) (i.castLE hK))) := by
  unfold Host.topK
  dsimp only
  rw [cut2 hK]
  unfold Host.sort2
  rw [dif_pos Nat.one_lt_two]
  exact (congrArg x (along2 c (i.castLE hK) _)).trans
    (congrArg (fun B => x (ix2 c (sortedFrom B (i.castLE hK)))) (cmp2 x c (i.castLE hK)))

/-- The places of every row's greatest values, counted in the row. -/
theorem places2 (x : (⟨2, ![C, N]⟩ : Shape).Idx → EReal) (h : (⟨2, ![C, N]⟩ : Shape).Slices (fun _ => 0) ⟨2, ![C, K]⟩)
    (c : Fin C) (i : Fin K) :
    (Host.topK ⟨2, ![C, K]⟩ 1 (FloatOps.cmpfTotal (F := Ideal) (φ := .f32) .gt) x h).2 (ix2 c i)
      = BitVec.ofNat 32 (sortedFrom (desc fun k => x (ix2 c k)) (i.castLE hK)).val := by
  unfold Host.topK
  dsimp only
  rw [cut2 hK]
  unfold Host.sort2
  rw [dif_pos Nat.one_lt_two]
  dsimp only
  rw [dif_pos Nat.one_lt_two]
  exact (congrArg (fun j : (⟨2, ![C, N]⟩ : Shape).Idx => BitVec.ofNat 32 (j 1).val) (along2 c (i.castLE hK) _)).trans
    (congrArg (fun B => BitVec.ofNat 32 (sortedFrom B (i.castLE hK)).val) (cmp2 x c (i.castLE hK)))

end Cert.Proof.HostTop
end
-- ==== Proof.KerTop.lean ====
/-
  The kernel program's operations before its region, first part: the top of each of eight chunks, the top of those, and
  the place each candidate comes from. The candidates are those of one top over the whole list.
-/
module

public import proofs.«01_k».proof.Proof.Cand
public import proofs.«01_k».proof.Proof.HostTop
public import proofs.«01_k».proof.Proof.Gen.KernelIdeal.Frame
public import Idealize.ShloMosaic.Lib.StableHlo.ReadAt
public import Idealize.ShloMosaic.Lib.Pointwise
public import Idealize.ShloMosaic.Lib.Routing.OpsSet

@[expose] public section
noncomputable section
open Idealize.ShloMosaic Idealize.ShloMosaic.StableHlo

namespace Cert.Proof.KerTop
open Cert.KernelIdeal Cert.KernelIdeal.Gen Cert.Proof.TopK

set_option maxRecDepth 20000

variable (X : Valuation τ sig (Elt Ideal))

/-- The score table among the contents. -/
abbrev cls : FVec Ideal S20000x20 .f32 := X (Proc.devRef .tc main_arg0)
/-- The table of predictions among the contents. -/
abbrev regs : FVec Ideal S20000x4 .f32 := X (Proc.devRef .tc main_arg1)
/-- The anchor table among the contents. -/
abbrev anchors : FVec Ideal S20000x2 .f32 := X (Proc.devRef .tc main_arg2)

/-- The place in the list of candidate `p` of the eight thousand. -/
abbrev from8 (p : Fin 8000) : Fin 400000 :=
  src (C := 8) (n := 50000) (K := 1000) (by decide) (by decide) (by decide) (by decide) (Cand.flat (cls X)) p

/-- The first selection: the value at place `p` of the eight sorted lists laid end to end. -/
theorem vals_at (p : Fin 8000) :
    (after hostOps0 X (Proc.devRef .tc main_v15) : FVec Ideal S8000 .f32) (ix1 p) = Cand.flat (cls X) (from8 X p) := by
  after_reads_at
  exact HostTop.vals2 (by decide) _ _ _ _

/-- A word and a multiple of the chunk's length make the place in the list. -/
theorem word_add (a b n : ℕ) :
    IntOp.addi (BitVec.ofNat 32 a) (IntOp.muli (BitVec.ofNat 32 b) (BitVec.ofNat 32 n)) = BitVec.ofNat 32 (b * n + a) := by
  rw [BitVec.ofNat_add, BitVec.ofNat_mul, BitVec.add_comm]
  exact rfl

/-- The place in the list of a candidate: its chunk's start and its place in the chunk. -/
theorem src_val {C n K N M : ℕ} (hN : C * n = N) (hM : C * K = M) (hK : K ≤ n) (hK0 : 0 < K) (x : Fin N → EReal) (p : Fin M) :
    (src hN hM hK hK0 x p).val = p.val / K * n + (rank hN x (cOf hM p) (jOf hK hK0 p)).val := rfl

/-- The first selection: the place in the whole list, as a word. -/
theorem word_at (p : Fin 8000) :
    (after hostOps0 X (Proc.devRef .tc main_v14) : IVec S8000 32) (ix1 p) = BitVec.ofNat 32 (from8 X p).val := by
  after_reads_at
  rw [src_val, ← word_add]
  refine congrArg₂ IntOp.addi ?_ rfl
  exact HostTop.places2 (by decide) _ _ _ _

/-- The values of the first selection are the scores at their places. -/
theorem vals_eq :
    (after hostOps0 X (Proc.devRef .tc main_v15) : FVec Ideal S8000 .f32) = fun i => Cand.flat (cls X) (from8 X (i 0)) := by
  funext i
  obtain ⟨p, rfl⟩ : ∃ p : Fin 8000, i = ix1 p := ⟨i 0, by funext a; match a with | ⟨0, _⟩ => rfl⟩
  exact vals_at X p

/-- The place among the eight thousand of candidate `i`. -/
abbrev second (i : Fin 1000) : Fin 8000 :=
  sortedFrom (desc fun p => Cand.flat (cls X) (from8 X p)) (i.castLE (by decide))

/-- The place of a candidate, found through the two selections. -/
theorem place_second (i : Fin 1000) : Cand.place (cls X) i = from8 X (second X i) :=
  merge (C := 8) (n := 50000) (by decide) (by decide) (by decide) (by decide) (Cand.flat (cls X)) (by decide) (by decide) i

/-- The second selection gives the score of candidate `i`. -/
theorem score_at (i : Fin 1000) :
    (after hostOps0 X (Proc.devRef .tc main_values_1) : FVec Ideal S1000 .f32) (ix1 i) = Cand.score (cls X) i := by
  have e : (after hostOps0 X (Proc.devRef .tc main_values_1) : FVec Ideal S1000 .f32)
      = (Host.topK S1000 0 (FloatOps.cmpfTotal (F := Ideal) (φ := .f32) .gt)
          (after hostOps0 X (Proc.devRef .tc main_v15) : FVec Ideal S8000 .f32) sliceFits_S8000_S1000).1 := by
    after_reads_simp
  rw [e, vals_eq]
  refine (HostTop.vals1 (by decide) _ _ i).trans ?_
  exact congrArg (Cand.flat (cls X)) (place_second X i).symm

/-- The second selection gives the place among the eight thousand, as a word. -/
theorem second_at (i : Fin 1000) :
    (after hostOps0 X (Proc.devRef .tc main_indices_2) : IVec S1000 32) (ix1 i) = BitVec.ofNat 32 (second X i).val := by
  have e : (after hostOps0 X (Proc.devRef .tc main_indices_2) : IVec S1000 32)
      = (Host.topK S1000 0 (FloatOps.cmpfTotal (F := Ideal) (φ := .f32) .gt)
          (after hostOps0 X (Proc.devRef .tc main_v15) : FVec Ideal S8000 .f32) sliceFits_S8000_S1000).2 := by
    after_reads_simp
  rw [e, vals_eq]
  exact HostTop.places1 (by decide) _ _ i

/-- A place among the eight thousand is not negative, so it is not counted from the end. -/
theorem kept (a : ℕ) (ha : a < 8000) :
    Scalar.select (IntOp.cmpi .slt (BitVec.ofNat 32 a) 0#32) (IntOp.addi (BitVec.ofNat 32 a) 8000#32) (BitVec.ofNat 32 a)
      = BitVec.ofNat 32 a := by
  have h : IntOp.cmpi .slt (BitVec.ofNat 32 a) 0#32 = BitVec.ofBool (decide (a < 0)) :=
    WordCmp.cmpi_slt_ofNat (by omega) (by omega)
  rw [h, decide_eq_false (by omega)]
  rfl

/-- The row number at which the place is looked up. -/
theorem start_at (i : Fin 1000) :
    (after hostOps0 X (Proc.devRef .tc main_v21) : IVec S1000x1 32) (ix2 i 0) = BitVec.ofNat 32 (second X i).val := by
  rw [← kept _ (second X i).isLt, ← second_at]
  after_reads_at

/-- The looked-up place is the place of candidate `i`, as a word. -/
theorem place_at (i : Fin 1000) :
    (after hostOps0 X (Proc.devRef .tc main_v22) : IVec S1000 32) (ix1 i) = Cand.placeWord (cls X) i := by
  have e : (after hostOps0 X (Proc.devRef .tc main_v22) : IVec S1000 32)
      = Host.gather gather_S8000_S1000x1_S1000_n_0_n_n_0_1_1
          (after hostOps0 X (Proc.devRef .tc main_v14) : IVec S8000 32)
          (after hostOps0 X (Proc.devRef .tc main_v21) : IVec S1000x1 32) := by
    after_reads_simp
  rw [e]
  refine (Routing.gather_take1 gather_S8000_S1000x1_S1000_n_0_n_n_0_1_1 rfl rfl rfl rfl _ _ i (second X i) (start_at X i) (by decide)).trans ?_
  refine (word_at X _).trans ?_
  unfold Cand.placeWord
  rw [place_second]

/-- The divisor is 20. -/
theorem twenty_at : (after hostOps0 X (Proc.devRef .tc main_c_5) : IVec S_ 32) = fun _ => 20#32 := by
  after_reads_simp
  rfl

/-! ## Rows and classes -/

/-- The integer division and the remainder. -/
abbrev divide : Valuation τ sig (Elt Ideal) := after hostOps0_3 (after hostOps0_2 (after hostOps0_1 X))

/-- The quotient by 20, rounded down. -/
theorem quot_at (h : (X (Proc.devRef .tc main_c_5) : IVec S_ 32) = fun _ => 20#32) (i : Fin 1000) :
    (divide X (Proc.devRef .tc main_v23) : IVec S1000 32) (ix1 i)
      = Cand.fdiv ((X (Proc.devRef .tc main_v22) : IVec S1000 32) (ix1 i)) := by
  after_reads_at
  rw [h]
  rfl

/-- The remainder by 20. -/
theorem rem_at (i : Fin 1000) :
    (divide X (Proc.devRef .tc main_v24) : IVec S1000 32) (ix1 i)
      = Cand.fmod ((X (Proc.devRef .tc main_v22) : IVec S1000 32) (ix1 i)) := by
  after_reads_at
  rfl

/-- The division leaves the scores alone. -/
theorem divide_values : divide X (Proc.devRef .tc main_values_1) = X (Proc.devRef .tc main_values_1) := by after_reads_simp
/-- The division leaves the predictions alone. -/
theorem divide_regs : divide X (Proc.devRef .tc main_arg1) = X (Proc.devRef .tc main_arg1) := by after_reads_simp
/-- The division leaves the anchors alone. -/
theorem divide_anchors : divide X (Proc.devRef .tc main_arg2) = X (Proc.devRef .tc main_arg2) := by after_reads_simp
/-- The selection leaves the predictions alone. -/
theorem top_regs : after hostOps0 X (Proc.devRef .tc main_arg1) = X (Proc.devRef .tc main_arg1) := by after_reads_simp
/-- The selection leaves the anchors alone. -/
theorem top_anchors : after hostOps0 X (Proc.devRef .tc main_arg2) = X (Proc.devRef .tc main_arg2) := by after_reads_simp

end Cert.Proof.KerTop
end
-- ==== Proof.KerBody.lean ====
/-
  What the region's one block holds: the pieces the body stores, in terms of the state of its loop, and that state as a
  recursion over the rows of the overlap matrix.
-/
module

public import proofs.«01_k».proof.Defs
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Pointwise

@[expose] public section
noncomputable section
open Idealize.ShloMosaic Idealize.ShloMosaic.TcCoe Idealize.SL.Sem
open Idealize.ShloMosaic.Pipeline (Dat)

namespace Cert.Proof.KerBody
open Cert.KernelIdeal Cert.KernelIdeal.Gen

variable {F : FTy → Type} [FloatOps F] [Named F]

/-- A whole block is loaded from offset zero. -/
theorem hz : (![0, 0] : Fin 2 → Nat) = fun _ => 0 := funext fun a => by fin_cases a <;> rfl

/-- The loop makes a thousand trips. -/
theorem trips_val : k0_t1_loop.trips = 1000 := by decide +kernel

/-- The overlap matrix the body stores in its scratch, from the seven blocks it loads. -/
def overlap (x1 : Vec F S1x1024 .f32) (x2 : Vec F S1024x1 .f32) (x3 : Vec F S1024x2 .f32) (x4 : Vec F S1024x4 .f32)
    (x5 : Vec F S2x1024 .f32) (x6 : Vec F S4x1024 .f32) : FVec F S1024x1024 .f32 :=
  k0_pay23 (k0_pay13 (k0_pay2 x3 x4) (Named.named κ "mask" 0xF149F2CA#32) k0_pay8 x2)
    (k0_pay14 (k0_pay2 x3 x4) (Named.named κ "mask" 0xF149F2CA#32) k0_pay8 x2)
    (k0_pay15 (k0_pay2 x3 x4) (Named.named κ "mask" 0xF149F2CA#32) k0_pay8 x2)
    (k0_pay17 (k0_pay2 x3 x4) (k0_pay6 x5 x6) (Named.named κ "mask" 0xF149F2CA#32) k0_pay8 x1)
    (k0_pay18 (k0_pay2 x3 x4) (k0_pay7 x5 x6) (Named.named κ "mask" 0xF149F2CA#32) k0_pay8 x1)
    (k0_pay19 (k0_pay2 x3 x4) (k0_pay7 x5 x6) (Named.named κ "mask" 0xF149F2CA#32) k0_pay8 x1)
    (k0_pay20 (k0_pay2 x3 x4) (Named.named κ "mask" 0xF149F2CA#32) k0_pay8 x2)
    (k0_pay21 (k0_pay2 x3 x4) (k0_pay6 x5 x6) (k0_pay7 x5 x6) (Named.named κ "mask" 0xF149F2CA#32) k0_pay8 x1)
    (k0_pay22 (k0_pay2 x3 x4) (k0_pay6 x5 x6) (Named.named κ "mask" 0xF149F2CA#32) k0_pay8 x2 x1)

/-- Row `k` of a square matrix. -/
def rowOf (I : FVec F S1024x1024 .f32) (k : Fin k0_t1_loop.trips) : Vec F S1x1024 .f32 :=
  View.ld I (Rect.unit (s := S1024x1024) (k0_off1 k) S1x1024.size (k0_off1_inb k))

/-- The keep vector after `n` trips of the body's loop. -/
def kept (I : FVec F S1024x1024 .f32) (init : FVec F S1x1024 .f32) : ℕ → FVec F S1x1024 .f32
  | 0 => init
  | n + 1 => if h : n < k0_t1_loop.trips then k0_pay26 ⟨n, h⟩ (kept I init n) (rowOf I ⟨n, h⟩) else kept I init n

/-- One trip of the loop is its payload, of the state before and of the row of the scratch it loads. -/
theorem trip_val (c : Dev nD)
    (arg0 : Memref sig .tc .vmem S1x1024 .f32) (harg0 : arg0.IsWhole)
    (arg1 : Memref sig .tc .vmem S1x1024 .f32) (harg1 : arg1.IsWhole)
    (arg2 : Memref sig .tc .vmem S1024x1 .f32) (harg2 : arg2.IsWhole)
    (arg3 : Memref sig .tc .vmem S1024x2 .f32) (harg3 : arg3.IsWhole)
    (arg4 : Memref sig .tc .vmem S1024x4 .f32) (harg4 : arg4.IsWhole)
    (arg5 : Memref sig .tc .vmem S2x1024 .f32) (harg5 : arg5.IsWhole)
    (arg6 : Memref sig .tc .vmem S4x1024 .f32) (harg6 : arg6.IsWhole)
    (arg7 : Memref sig .tc .vmem S6x1024 .f32) (harg7 : arg7.IsWhole)
    (arg8 : Memref sig .tc .vmem S1024x1024 .f32) (harg8 : arg8.IsWhole)
    (v33 v36 : FVec F S2x1024 .f32) (v61 v63 v65 : FVec F S1024x1 .f32) (v69 v71 v73 : FVec F S1x1024 .f32)
    (v80 : FVec F S1024x1 .f32) (v87 : FVec F S1x1024 .f32) (v90 : FVec F S1024x1024 .f32)
    (X : arg8.view.ty.Contents (Elt F)) (k : Fin k0_t1_loop.trips) (acc : FVec F S1x1024 .f32) :
    tripR_k0_t1 (F := F) Variants.none c none arg0 harg0 arg1 harg1 arg2 harg2 arg3 harg3 arg4 harg4
      arg5 harg5 arg6 harg6 arg7 harg7 arg8 harg8 v33 v36 v61 v63 v65 v69 v71 v73 v80 v87 v90 X k acc
      = k0_pay26 k acc (rowOf (arg8.view.read (Elt F) X) k) := by
  unfold tripR_k0_t1 trip_k0_t1
  rfl

/-- The state of the loop, where the scratch holds `I`, is the recursion over `I`'s rows. -/
theorem st_val (c : Dev nD)
    (arg0 : Memref sig .tc .vmem S1x1024 .f32) (harg0 : arg0.IsWhole)
    (arg1 : Memref sig .tc .vmem S1x1024 .f32) (harg1 : arg1.IsWhole)
    (arg2 : Memref sig .tc .vmem S1024x1 .f32) (harg2 : arg2.IsWhole)
    (arg3 : Memref sig .tc .vmem S1024x2 .f32) (harg3 : arg3.IsWhole)
    (arg4 : Memref sig .tc .vmem S1024x4 .f32) (harg4 : arg4.IsWhole)
    (arg5 : Memref sig .tc .vmem S2x1024 .f32) (harg5 : arg5.IsWhole)
    (arg6 : Memref sig .tc .vmem S4x1024 .f32) (harg6 : arg6.IsWhole)
    (arg7 : Memref sig .tc .vmem S6x1024 .f32) (harg7 : arg7.IsWhole)
    (arg8 : Memref sig .tc .vmem S1024x1024 .f32) (harg8 : arg8.IsWhole)
    (v33 v36 : FVec F S2x1024 .f32) (v61 v63 v65 : FVec F S1024x1 .f32) (v69 v71 v73 : FVec F S1x1024 .f32)
    (v80 : FVec F S1024x1 .f32) (v87 : FVec F S1x1024 .f32) (v90 : FVec F S1024x1024 .f32)
    (X : arg8.view.ty.Contents (Elt F)) (I : FVec F S1024x1024 .f32) (hX : arg8.view.read (Elt F) X = I)
    (init : FVec F S1x1024 .f32) (n : ℕ) (hn : n ≤ k0_t1_loop.trips) :
    st_k0_t1 (F := F) Variants.none c none arg0 harg0 arg1 harg1 arg2 harg2 arg3 harg3 arg4 harg4
      arg5 harg5 arg6 harg6 arg7 harg7 arg8 harg8 v33 v36 v61 v63 v65 v69 v71 v73 v80 v87 v90 X init n
      = kept I init n := by
  induction n with
  | zero => rfl
  | succ n ih =>
    rw [st_k0_t1_succ Variants.none c none arg0 harg0 arg1 harg1 arg2 harg2 arg3 harg3 arg4 harg4
      arg5 harg5 arg6 harg6 arg7 harg7 arg8 harg8 v33 v36 v61 v63 v65 v69 v71 v73 v80 v87 v90 X init ⟨n, hn⟩,
      trip_val, hX, kept, dif_pos (show n < k0_t1_loop.trips from hn)]
    simp only
    rw [ih (by omega)]

/-- A buffer covered by one store holds what was stored. -/
theorem covered_val {Val : EltTy → Type} [∀ e, Nonempty (Val e)] {sg : RefSig} {κ : Kind} {sp : Space} {S : Shape}
    {e : EltTy} (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_cons_self, View.mem_set_unit_zero h inb y⟩)]
  exact View.canon_unit_zero h inb w

/-- The scratch, after the store that covers it, holds what was stored. -/
theorem scratch_val (arg8 : Memref sig .tc .vmem S1024x1024 .f32) (I : FVec F S1024x1024 .f32) :
    arg8.view.read (Elt F) (arg8.view.writes (Elt F) arg8.view.junk
      [⟨Rect.unit ![0, 0] ![1024, 1024] inb_S1024x1024_S1024x1024_0_0, I⟩]) = I :=
  covered_val (Val := Elt F) (S := S1024x1024) (e := .f32) arg8.view _ hz inb_S1024x1024_S1024x1024_0_0 I

/-- The block the body leaves: labels in row five, kept scores in row four, kept boxes in rows zero to three. -/
theorem block_val (c : Dev nD)
    (arg0 : Memref sig .tc .vmem S1x1024 .f32) (harg0 : arg0.IsWhole)
    (arg1 : Memref sig .tc .vmem S1x1024 .f32) (harg1 : arg1.IsWhole)
    (arg2 : Memref sig .tc .vmem S1024x1 .f32) (harg2 : arg2.IsWhole)
    (arg3 : Memref sig .tc .vmem S1024x2 .f32) (harg3 : arg3.IsWhole)
    (arg4 : Memref sig .tc .vmem S1024x4 .f32) (harg4 : arg4.IsWhole)
    (arg5 : Memref sig .tc .vmem S2x1024 .f32) (harg5 : arg5.IsWhole)
    (arg6 : Memref sig .tc .vmem S4x1024 .f32) (harg6 : arg6.IsWhole)
    (arg7 : Memref sig .tc .vmem S6x1024 .f32) (harg7 : arg7.IsWhole)
    (arg8 : Memref sig .tc .vmem S1024x1024 .f32) (harg8 : arg8.IsWhole)
    (x0 : Vec F S1x1024 .f32) (x1 : Vec F S1x1024 .f32) (x2 : Vec F S1024x1 .f32) (x3 : Vec F S1024x2 .f32)
    (x4 : Vec F S1024x4 .f32) (x5 : Vec F S2x1024 .f32) (x6 : Vec F S4x1024 .f32) :
    out0_A_7 c arg0 harg0 arg1 harg1 arg2 harg2 arg3 harg3 arg4 harg4 arg5 harg5 arg6 harg6 arg7 harg7 arg8 harg8
      x0 x1 x2 x3 x4 x5 x6
      = View.canon
        [⟨Rect.unit ![5, 0] ![1, 1024] inb_S6x1024_S1x1024_5_0, k0_pay1 x1⟩,
         ⟨Rect.unit ![4, 0] ![1, 1024] inb_S6x1024_S1x1024_4_0,
          k0_pay28 x0 (kept (overlap x1 x2 x3 x4 x5 x6) (k0_pay25 x0) 1000)⟩,
         ⟨Rect.unit ![0, 0] ![4, 1024] inb_S6x1024_S4x1024_0_0,
          k0_pay27 (k0_pay6 x5 x6) (k0_pay7 x5 x6)
            (kept (overlap x1 x2 x3 x4 x5 x6) (k0_pay25 x0) 1000)⟩] := by
  unfold out0_A_7
  rw [View.read_writes_eq_canon _ _ _ (cover0_A_7 c arg0 harg0 arg1 harg1 arg2 harg2 arg3 harg3 arg4 harg4
    arg5 harg5 arg6 harg6 arg7 harg7 arg8 harg8 x0 x1 x2 x3 x4 x5 x6)]
  unfold kernelRun0_A
  dsimp only
  sl_unfold_words
  simp only [View.readAt_eq_ld, harg0.read_unread, harg1.read_unread, harg2.read_unread, harg3.read_unread, harg4.read_unread, harg5.read_unread, harg6.read_unread,
    View.ld_unit_zero (S := S1x1024) hz,
    View.ld_unit_zero (S := S1024x1) hz,
    View.ld_unit_zero (S := S1024x2) hz,
    View.ld_unit_zero (S := S1024x4) hz,
    View.ld_unit_zero (S := S2x1024) hz,
    View.ld_unit_zero (S := S4x1024) hz]
  have ht : Scf.trips (0#32) (Scalar.addi 0#32 1000#32) 1#32 = 1000 := trips_val
  have hle : 1000 ≤ k0_t1_loop.trips := le_of_eq trips_val.symm
  rw [ht, st_val (hX := scratch_val arg8 _) (hn := hle)]
  rfl

end Cert.Proof.KerBody
end
-- ==== Proof.KerAt.lean ====
/-
  The region's block read at an index, where the blocks it loads hold a thousand candidates (and any padding after them).
-/
module

public import proofs.«01_k».proof.Proof.KerBody
public import proofs.«01_k».proof.Proof.Spec
public import Idealize.ShloMosaic.Lib.WordCmp

@[expose] public section
noncomputable section
open Idealize.ShloMosaic Idealize.ShloMosaic.TcCoe

namespace Cert.Proof.KerAt
open Cert.KernelIdeal Cert.KernelIdeal.Gen Cert.Proof.KerBody

/-- A candidate's place among the padded ones. -/
abbrev pl (k : Fin 1000) : Fin 1024 := Fin.castLE (by decide) k

/-- The seven blocks hold the candidates: scores, labels in both layouts, anchors and predictions in both layouts. -/
structure Holds (s l : Fin 1000 → EReal) (A : Fin 1000 → Fin 2 → EReal) (R : Fin 1000 → Fin 4 → EReal)
    (x0 x1 : Vec Ideal S1x1024 .f32) (x2 : Vec Ideal S1024x1 .f32) (x3 : Vec Ideal S1024x2 .f32)
    (x4 : Vec Ideal S1024x4 .f32) (x5 : Vec Ideal S2x1024 .f32) (x6 : Vec Ideal S4x1024 .f32) : Prop where
  score : ∀ k, x0 (ix2 0 (pl k)) = s k
  labelRow : ∀ k, x1 (ix2 0 (pl k)) = l k
  labelCol : ∀ k, x2 (ix2 (pl k) 0) = l k
  anchorCol : ∀ k d, x3 (ix2 (pl k) d) = A k d
  predCol : ∀ k d, x4 (ix2 (pl k) d) = R k d
  anchorRow : ∀ k d, x5 (ix2 d (pl k)) = A k d
  predRow : ∀ k d, x6 (ix2 d (pl k)) = R k d

/-- The named mask value is the least extended real. -/
theorem mask_val : (Named.named (F := Ideal) κ "mask" (φ := .f32) 0xF149F2CA#32) = (⊥ : EReal) := rfl

/-- The bit pattern of minus infinity is the least extended real. -/
theorem ninf_val : Ideal.ofBits .f32 0xFF800000#32 = (⊥ : EReal) := by
  simp [Ideal.ofBits, Ideal.ieee]

variable {s l : Fin 1000 → EReal} {A : Fin 1000 → Fin 2 → EReal} {R : Fin 1000 → Fin 4 → EReal}
  {x0 x1 : Vec Ideal S1x1024 .f32} {x2 : Vec Ideal S1024x1 .f32} {x3 : Vec Ideal S1024x2 .f32}
  {x4 : Vec Ideal S1024x4 .f32} {x5 : Vec Ideal S2x1024 .f32} {x6 : Vec Ideal S4x1024 .f32}

/-- The boxes of the candidates. -/
abbrev boxes (A : Fin 1000 → Fin 2 → EReal) (R : Fin 1000 → Fin 4 → EReal) (k : Fin 1000) : Fin 4 → EReal :=
  Spec.decode (A k) (R k)

/-- The decoded boxes, in column layout. -/
theorem box_col (h : Holds s l A R x0 x1 x2 x3 x4 x5 x6) (k : Fin 1000) (c : Fin 4) :
    k0_pay2 x3 x4 (ix2 (pl k) c) = boxes A R k c := by
  pointwise [k0_pay2]
  simp only [h.anchorCol, h.predCol]
  rfl

/-- The lower corners, in row layout. -/
theorem lo_row (h : Holds s l A R x0 x1 x2 x3 x4 x5 x6) (k : Fin 1000) (d : Fin 2) :
    k0_pay6 x5 x6 (ix2 d (pl k)) = Spec.lo (A k) (R k) d := by
  pointwise [k0_pay6, k0_pay5, k0_pay4, k0_pay3]
  simp only [h.anchorRow, h.predRow]
  rfl

/-- The upper corners, in row layout. -/
theorem hi_row (h : Holds s l A R x0 x1 x2 x3 x4 x5 x6) (k : Fin 1000) (d : Fin 2) :
    k0_pay7 x5 x6 (ix2 d (pl k)) = Spec.hi (A k) (R k) d := by
  pointwise [k0_pay7, k0_pay5, k0_pay4, k0_pay3]
  simp only [h.anchorRow, h.predRow]
  rfl

/-- A maximum over more places, where the further places hold the least value, is the maximum over the first ones. -/
theorem fold_pad {n m p : ℕ} (hnm : n ≤ m) (f : Fin m × Fin p → EReal) (g : Fin n × Fin p → EReal)
    (hin : ∀ k c, f (Fin.castLE hnm k, c) = g (k, c)) (hout : ∀ k c, n ≤ k.val → f (k, c) = ⊥) :
    Finset.univ.fold max ⊥ f = Finset.univ.fold max ⊥ g := by
  apply le_antisymm
  · rw [Finset.fold_max_le]
    refine ⟨bot_le, fun x _ => ?_⟩
    by_cases hx : x.1.val < n
    · rw [Finset.le_fold_max]
      exact Or.inr ⟨(⟨x.1.val, hx⟩, x.2), Finset.mem_univ _, le_of_eq (hin ⟨x.1.val, hx⟩ x.2)⟩
    · exact le_trans (le_of_eq (hout x.1 x.2 (not_lt.mp hx))) bot_le
  · rw [Finset.fold_max_le]
    refine ⟨bot_le, fun x _ => ?_⟩
    rw [Finset.le_fold_max]
    exact Or.inr ⟨(Fin.castLE hnm x.1, x.2), Finset.mem_univ _, ge_of_eq (hin x.1 x.2)⟩

/-- The largest coordinate: the padding counts as the least value, so the maximum is the candidates' own. -/
theorem top_val (h : Holds s l A R x0 x1 x2 x3 x4 x5 x6) :
    k0_pay9 (k0_pay2 x3 x4) (Named.named (F := Ideal) κ "mask" 0xF149F2CA#32) k0_pay8 = Spec.top (boxes A R) := by
  rw [mask_val]
  pointwise [k0_pay9, k0_pay8]
  rw [ninf_val]
  refine fold_pad (by decide) _ _ (fun k c => ?_) (fun k c hk => ?_)
  · rw [← box_col h]
    exact Scalar.select_of_eq_one ((WordCmp.cmpi_slt_ofNat_eq_one_iff (Nat.lt_trans k.isLt (by decide)) (by decide)).mpr k.isLt) _ _
  · exact Scalar.select_of_eq_zero ((WordCmp.cmpi_slt_ofNat_eq_zero_iff (Nat.lt_trans k.isLt (by decide)) (by decide)).mpr (not_lt.mpr hk)) _ _

/-- The moved boxes. -/
abbrev mov (l : Fin 1000 → EReal) (A : Fin 1000 → Fin 2 → EReal) (R : Fin 1000 → Fin 4 → EReal) :
    Fin 1000 → Fin 4 → EReal := Spec.moved (boxes A R) l

/-- The four moved corners in column layout. -/
theorem corner_col (h : Holds s l A R x0 x1 x2 x3 x4 x5 x6) (k : Fin 1000) :
    k0_pay12 (k0_pay2 x3 x4) (Named.named (F := Ideal) κ "mask" 0xF149F2CA#32) k0_pay8 x2 (ix2 (pl k) 0) = mov l A R k 0 ∧
    k0_pay13 (k0_pay2 x3 x4) (Named.named (F := Ideal) κ "mask" 0xF149F2CA#32) k0_pay8 x2 (ix2 (pl k) 0) = mov l A R k 1 ∧
    k0_pay14 (k0_pay2 x3 x4) (Named.named (F := Ideal) κ "mask" 0xF149F2CA#32) k0_pay8 x2 (ix2 (pl k) 0) = mov l A R k 2 ∧
    k0_pay15 (k0_pay2 x3 x4) (Named.named (F := Ideal) κ "mask" 0xF149F2CA#32) k0_pay8 x2 (ix2 (pl k) 0) = mov l A R k 3 := by
  refine ⟨?_, ?_, ?_, ?_⟩
  · pointwise [k0_pay12, k0_pay10]
    rw [top_val h, h.labelCol, box_col h]; rfl
  · pointwise [k0_pay13, k0_pay10]
    rw [top_val h, h.labelCol, box_col h]; rfl
  · pointwise [k0_pay14, k0_pay10]
    rw [top_val h, h.labelCol, box_col h]; rfl
  · pointwise [k0_pay15, k0_pay10]
    rw [top_val h, h.labelCol, box_col h]; rfl

/-- The four moved corners in row layout. -/
theorem corner_row (h : Holds s l A R x0 x1 x2 x3 x4 x5 x6) (k : Fin 1000) :
    k0_pay16 (k0_pay2 x3 x4) (k0_pay6 x5 x6) (Named.named (F := Ideal) κ "mask" 0xF149F2CA#32) k0_pay8 x1 (ix2 0 (pl k)) = mov l A R k 0 ∧
    k0_pay17 (k0_pay2 x3 x4) (k0_pay6 x5 x6) (Named.named (F := Ideal) κ "mask" 0xF149F2CA#32) k0_pay8 x1 (ix2 0 (pl k)) = mov l A R k 1 ∧
    k0_pay18 (k0_pay2 x3 x4) (k0_pay7 x5 x6) (Named.named (F := Ideal) κ "mask" 0xF149F2CA#32) k0_pay8 x1 (ix2 0 (pl k)) = mov l A R k 2 ∧
    k0_pay19 (k0_pay2 x3 x4) (k0_pay7 x5 x6) (Named.named (F := Ideal) κ "mask" 0xF149F2CA#32) k0_pay8 x1 (ix2 0 (pl k)) = mov l A R k 3 := by
  refine ⟨?_, ?_, ?_, ?_⟩
  · pointwise [k0_pay16, k0_pay11]
    rw [top_val h, h.labelRow, lo_row h]; rfl
  · pointwise [k0_pay17, k0_pay11]
    rw [top_val h, h.labelRow, lo_row h]; rfl
  · pointwise [k0_pay18, k0_pay11]
    rw [top_val h, h.labelRow, hi_row h]; rfl
  · pointwise [k0_pay19, k0_pay11]
    rw [top_val h, h.labelRow, hi_row h]; rfl

/-- The overlap matrix at two candidates. -/
theorem overlap_at (h : Holds s l A R x0 x1 x2 x3 x4 x5 x6) (i j : Fin 1000) :
    overlap x1 x2 x3 x4 x5 x6 (ix2 (pl i) (pl j)) = Spec.iou (mov l A R) i j := by
  obtain ⟨c0, c1, c2, c3⟩ := corner_col h i
  obtain ⟨r0, r1, r2, r3⟩ := corner_row h j
  pointwise [overlap, k0_pay23, k0_pay22, k0_pay21, k0_pay20]
  simp only [c0, c1, c2, c3, r0, r1, r2, r3]
  rfl

/-- The induction variable of trip `k` is the word of `k`. -/
theorem iv_val (k : ℕ) : Scf.iv 0#32 1#32 k = BitVec.ofNat 32 k := by
  simp [Scf.iv]

/-- A row of a square matrix, read at a column. -/
theorem rowOf_at (I : FVec Ideal S1024x1024 .f32) (k : Fin 1000) (hk : k.val < k0_t1_loop.trips) (j : Fin 1024) :
    rowOf I ⟨k.val, hk⟩ (ix2 0 j) = I (ix2 (pl k) j) := by
  refine congrArg I (funext fun a => Fin.ext ?_)
  have e : (k0_off1 ⟨k.val, hk⟩) = ![k.val, 0] := by
    have hk' := k.isLt
    unfold k0_off1
    dsimp only
    rw [iv_val]
    have hw : (Scalar.indexCast (BitVec.ofNat 32 k.val)).toNat = k.val := by
      simp [Scalar.indexCast]
      omega
    rw [hw]
  show (k0_off1 ⟨k.val, hk⟩) a + 1 * ((ix2 0 j : S1x1024.Idx) a).val = _
  rw [e]
  fin_cases a <;> simp [ix2]

/-- A maximum of a selection is positive exactly when the selected value is. -/
theorem pick_pos (acc : Fin 1024 → EReal) (k : Fin 1024) :
    (0 : EReal) < Finset.univ.fold max ⊥ (fun x : Fin 1 × Fin 1024 => if x.2 = k then acc x.2 else 0) ↔ 0 < acc k := by
  rw [Finset.lt_fold_max]
  constructor
  · rintro (h | ⟨x, _, h⟩)
    · exact absurd h not_lt_bot
    · by_cases e : x.2 = k
      · rwa [if_pos e, e] at h
      · rw [if_neg e] at h
        exact absurd h (lt_irrefl _)
  · intro h
    exact Or.inr ⟨(0, k), Finset.mem_univ _, by rwa [if_pos rfl]⟩

/-- One trip at a column: zero where the row's candidate drops it, else as before. -/
theorem trip_at (acc : FVec Ideal S1x1024 .f32) (row : Vec Ideal S1x1024 .f32) (k : Fin 1000)
    (hk : k.val < k0_t1_loop.trips) (j : Fin 1024) :
    k0_pay26 (F := Ideal) ⟨k.val, hk⟩ acc row (ix2 0 j)
      = if Ideal.ofBits .f32 0x3F19999A#32 < row (ix2 0 j) ∧ k.val < j.val ∧ 0 < acc (ix2 0 (pl k))
        then 0 else acc (ix2 0 j) := by
  pointwise [k0_pay26]
  rw [iv_val, ninf_val]
  have hs : ∀ x : Fin 1 × Fin 1024, Scalar.select (IntOp.cmpi .eq (BitVec.ofNat 32 x.2.val) (BitVec.ofNat 32 k.val))
      (acc (ix2 0 x.2)) 0 = if x.2 = pl k then acc (ix2 0 x.2) else 0 := fun x => by
    rw [WordCmp.cmpi_eq_ofNat (by omega) (by omega), Scalar.select_decide]
    exact if_congr (Fin.ext_iff (a := x.2) (b := pl k)).symm rfl rfl
  simp only [hs]
  rw [WordCmp.cmpi_sgt_ofNat (by omega) (by omega)]
  simp only [pick_pos (fun q => acc (ix2 0 q)), WordCmp.andi_ofBool, ← Bool.decide_and, Scalar.select_decide, and_assoc]

open Classical in
/-- The state of the loop at a candidate: one while it is kept, zero after. -/
theorem kept_at (h : Holds s l A R x0 x1 x2 x3 x4 x5 x6) (n : ℕ) (hn : n ≤ 1000) (j : Fin 1000) :
    kept (overlap x1 x2 x3 x4 x5 x6) (k0_pay25 x0) n (ix2 0 (pl j))
      = if Spec.keep s (mov l A R) n j then 1 else 0 := by
  induction n generalizing j with
  | zero =>
    show k0_pay25 x0 (ix2 0 (pl j)) = _
    pointwise [k0_pay25, k0_pay24]
    rw [h.score]
    exact if_congr Iff.rfl rfl rfl
  | succ n ih =>
    have ht : n < k0_t1_loop.trips := by rw [trips_val]; exact hn
    have ih' := ih (by omega)
    rw [kept, dif_pos ht, trip_at _ _ ⟨n, hn⟩ ht, rowOf_at _ ⟨n, hn⟩ ht, overlap_at h, ih', ih']
    simp only [Spec.keep, Spec.drops]
    by_cases hK : Spec.keep s (mov l A R) n ⟨n, hn⟩ <;> by_cases hj : Spec.keep s (mov l A R) n j <;>
      by_cases hlt : n < j.val <;>
      by_cases ho : Ideal.ofBits .f32 0x3F19999A#32 < Spec.iou (mov l A R) ⟨n, hn⟩ j <;>
      simp [hK, hj, hlt, ho, Fin.lt_def, show n < 1000 from hn]

/-- The mask the body multiplies by. -/
theorem mask_at (h : Holds s l A R x0 x1 x2 x3 x4 x5 x6) (j : Fin 1000) :
    kept (overlap x1 x2 x3 x4 x5 x6) (k0_pay25 x0) 1000 (ix2 0 (pl j)) = Spec.mask s (boxes A R) l j :=
  kept_at h 1000 le_rfl j

end Cert.Proof.KerAt
end
-- ==== Proof.KerRows.lean ====
/-
  The kernel program's operations before its region, second part: the candidates' rows, and the padding and layouts in
  which the region takes them.
-/
module

public import proofs.«01_k».proof.Proof.Cand
public import proofs.«01_k».proof.Proof.KerAt
public import proofs.«01_k».proof.Proof.Gen.KernelIdeal.Frame
public import Idealize.ShloMosaic.Lib.StableHlo.ReadAt
public import Idealize.ShloMosaic.Lib.Pointwise
public import Idealize.ShloMosaic.Lib.KernelVsHost

@[expose] public section
noncomputable section
open Idealize.ShloMosaic Idealize.ShloMosaic.StableHlo

namespace Cert.Proof.KerRows
open Cert.KernelIdeal Cert.KernelIdeal.Gen Cert.Proof.KerAt

set_option maxRecDepth 20000

variable (X : Valuation τ sig (Elt Ideal))

/-- The rows chosen, padded and laid out for the region. -/
abbrev rows : Valuation τ sig (Elt Ideal) :=
  after hostOps0_12 (after hostOps0_11 (after hostOps0_10 (after hostOps0_9 (after hostOps0_8 (after hostOps0_7
    (after hostOps0_6 (after hostOps0_5 X)))))))

/-- A padded buffer's entry below a thousand is the entry itself, whatever the padding. -/
theorem scores_at (k : Fin 1000) :
    (rows X (Proc.devRef .tc main_v44) : FVec Ideal S1x1024 .f32) (ix2 0 (pl k))
      = (X (Proc.devRef .tc main_values_1) : FVec Ideal S1000 .f32) (ix1 k) := by
  after_reads_at
  exact dif_pos k.isLt

/-- The padded label row at a candidate. -/
theorem labelRow_at (k : Fin 1000) :
    (rows X (Proc.devRef .tc main_v45) : FVec Ideal S1x1024 .f32) (ix2 0 (pl k))
      = (X (Proc.devRef .tc main_v25) : FVec Ideal S1000 .f32) (ix1 k) := by
  after_reads_at
  exact dif_pos k.isLt

/-- The padded label column at a candidate. -/
theorem labelCol_at (k : Fin 1000) :
    (rows X (Proc.devRef .tc main_v46) : FVec Ideal S1024x1 .f32) (ix2 (pl k) 0)
      = (X (Proc.devRef .tc main_v25) : FVec Ideal S1000 .f32) (ix1 k) := by
  after_reads_at
  exact dif_pos k.isLt

/-- The padded anchors, one row each, at a candidate. -/
theorem anchorCol_at (k : Fin 1000) (d : Fin 2) :
    (rows X (Proc.devRef .tc main_v42) : FVec Ideal S1024x2 .f32) (ix2 (pl k) d)
      = (X (Proc.devRef .tc main_v32) : FVec Ideal S1000x2 .f32) (ix2 k d) := by
  after_reads_at
  exact dif_pos k.isLt

/-- The padded predictions, one row each, at a candidate. -/
theorem predCol_at (k : Fin 1000) (d : Fin 4) :
    (rows X (Proc.devRef .tc main_v43) : FVec Ideal S1024x4 .f32) (ix2 (pl k) d)
      = (X (Proc.devRef .tc main_v39) : FVec Ideal S1000x4 .f32) (ix2 k d) := by
  after_reads_at
  exact dif_pos k.isLt

/-- The padded anchors, transposed, at a candidate. -/
theorem anchorRow_at (k : Fin 1000) (d : Fin 2) :
    (rows X (Proc.devRef .tc main_v47) : FVec Ideal S2x1024 .f32) (ix2 d (pl k))
      = (X (Proc.devRef .tc main_v32) : FVec Ideal S1000x2 .f32) (ix2 k d) := by
  after_reads_at
  exact dif_pos k.isLt

/-- The padded predictions, transposed, at a candidate. -/
theorem predRow_at (k : Fin 1000) (d : Fin 4) :
    (rows X (Proc.devRef .tc main_v48) : FVec Ideal S4x1024 .f32) (ix2 d (pl k))
      = (X (Proc.devRef .tc main_v39) : FVec Ideal S1000x4 .f32) (ix2 k d) := by
  after_reads_at
  exact dif_pos k.isLt

/-! ## The rows -/

/-- The label is the remainder cast to a float. -/
theorem label_at (k : Fin 1000) :
    (after hostOps0_4 X (Proc.devRef .tc main_v25) : FVec Ideal S1000 .f32) (ix1 k)
      = FloatOps.sitofp (F := Ideal) .f32 ((X (Proc.devRef .tc main_v24) : IVec S1000 32) (ix1 k)) := by
  after_reads_at

/-- The gathered anchor is the table row at the wrapped quotient. -/
theorem anchor_at (k : Fin 1000) (d : Fin 2) :
    (after hostOps0_4 X (Proc.devRef .tc main_v32) : FVec Ideal S1000x2 .f32) (ix2 k d)
      = (X (Proc.devRef .tc main_arg2) : FVec Ideal S20000x2 .f32)
          (ix2 (Rows.row (by decide) (Cand.wrap ((X (Proc.devRef .tc main_v23) : IVec S1000 32) (ix1 k)))) d) := by
  after_reads_simp
  refine (Rows.gather_at (by decide) gather_S20000x2_S1000x1_S1000x2_1_0_n_n_0_1_12.wf _ _ k d).trans ?_
  pointwise
  rfl

/-- The gathered prediction is the table row at the wrapped quotient. -/
theorem pred_at (k : Fin 1000) (d : Fin 4) :
    (after hostOps0_4 X (Proc.devRef .tc main_v39) : FVec Ideal S1000x4 .f32) (ix2 k d)
      = (X (Proc.devRef .tc main_arg1) : FVec Ideal S20000x4 .f32)
          (ix2 (Rows.row (by decide) (Cand.wrap ((X (Proc.devRef .tc main_v23) : IVec S1000 32) (ix1 k)))) d) := by
  after_reads_simp
  refine (Rows.gather_at (by decide) gather_S20000x4_S1000x1_S1000x4_1_0_n_n_0_1_14.wf _ _ k d).trans ?_
  pointwise
  rfl

/-- The gathers leave the scores alone. -/
theorem keep_values : after hostOps0_4 X (Proc.devRef .tc main_values_1) = X (Proc.devRef .tc main_values_1) := by after_reads_simp

end Cert.Proof.KerRows
end
-- ==== Proof.KerHost.lean ====
/-
  What the region of the kernel program finds: its seven operands hold the candidates' scores, labels, anchors and
  predictions.
-/
module

public import proofs.«01_k».proof.Proof.KerTop
public import proofs.«01_k».proof.Proof.KerRows

@[expose] public section
noncomputable section
open Idealize.ShloMosaic Idealize.ShloMosaic.StableHlo

namespace Cert.Proof.KerHost
open Cert.KernelIdeal Cert.KernelIdeal.Gen Cert.Proof.KerAt Cert.Proof.KerTop Cert.Proof.KerRows

set_option maxRecDepth 20000

/-- A run of one list after another. -/
theorem after_two (a b : List (HloOp τ sig (Elt Ideal))) (X : Valuation τ sig (Elt Ideal)) :
    after (a ++ b) X = after b (after a X) := by
  induction a generalizing X with
  | nil => rfl
  | cons x l ih => exact ih _

variable (m : (ℓ : Loc nD τ sig) → Buf (Elt Ideal) ℓ) (c : Dev nD)

/-- The memory at the launch, -/
abbrev Y0 : Valuation τ sig (Elt Ideal) := fun b => m (c, b)
/-- after the two tops, -/
abbrev Y1 : Valuation τ sig (Elt Ideal) := after hostOps0 (Y0 m c)
/-- after the division and the remainder, -/
abbrev Y2 : Valuation τ sig (Elt Ideal) := divide (Y1 m c)
/-- and after the rows are taken. -/
abbrev Y3 : Valuation τ sig (Elt Ideal) := after hostOps0_4 (Y2 m c)

/-- What the call finds in its buffers: the padded rows of the candidates. -/
theorem entry : V0 m c = rows (Y3 m c) := by
  unfold V0
  simp only [List.flatten_cons, List.flatten_nil, List.append_nil, after_two]

/-- The score of candidate `k` before the padding. -/
theorem score3 (k : Fin 1000) : (Y3 m c (Proc.devRef .tc main_values_1) : FVec Ideal S1000 .f32) (ix1 k) = Cand.score (cls (Y0 m c)) k := by
  rw [show Y3 m c (Proc.devRef .tc main_values_1) = _ from keep_values _, show Y2 m c (Proc.devRef .tc main_values_1) = _ from divide_values _]
  exact score_at _ k

/-- The remainder of candidate `k`, as a word. -/
theorem rem2 (k : Fin 1000) : (Y2 m c (Proc.devRef .tc main_v24) : IVec S1000 32) (ix1 k) = Cand.fmod (Cand.placeWord (cls (Y0 m c)) k) := by
  refine (rem_at _ k).trans ?_
  exact congrArg Cand.fmod (place_at _ k)

/-- The anchor table is still the argument. -/
theorem anchors2 : Y2 m c (Proc.devRef .tc main_arg2) = Y0 m c (Proc.devRef .tc main_arg2) :=
  (divide_anchors _).trans (top_anchors _)

/-- The table of predictions is still the argument. -/
theorem regs2 : Y2 m c (Proc.devRef .tc main_arg1) = Y0 m c (Proc.devRef .tc main_arg1) :=
  (divide_regs _).trans (top_regs _)

/-- The label of candidate `k` before the padding. -/
theorem label3 (k : Fin 1000) : (Y3 m c (Proc.devRef .tc main_v25) : FVec Ideal S1000 .f32) (ix1 k) = Cand.label (cls (Y0 m c)) k := by
  refine (label_at _ k).trans ?_
  rw [rem2]
  rfl

/-- The quotient of candidate `k`, as a word. -/
theorem quot2 (k : Fin 1000) : (Y2 m c (Proc.devRef .tc main_v23) : IVec S1000 32) (ix1 k) = Cand.fdiv (Cand.placeWord (cls (Y0 m c)) k) := by
  refine (quot_at _ (twenty_at _) k).trans ?_
  rw [place_at]

/-- The anchor gathered for candidate `k`. -/
theorem anchor3 (k : Fin 1000) (d : Fin 2) :
    (Y3 m c (Proc.devRef .tc main_v32) : FVec Ideal S1000x2 .f32) (ix2 k d) = Cand.anchor (cls (Y0 m c)) (anchors (Y0 m c)) k d := by
  refine (anchor_at _ k d).trans ?_
  rw [quot2, anchors2]
  rfl

/-- The prediction gathered for candidate `k`. -/
theorem pred3 (k : Fin 1000) (d : Fin 4) :
    (Y3 m c (Proc.devRef .tc main_v39) : FVec Ideal S1000x4 .f32) (ix2 k d) = Cand.pred (cls (Y0 m c)) (regs (Y0 m c)) k d := by
  refine (pred_at _ k d).trans ?_
  rw [quot2, regs2]
  rfl

/-- The region's operands hold the candidates. -/
theorem holds : Holds (Cand.score (cls (Y0 m c))) (Cand.label (cls (Y0 m c))) (Cand.anchor (cls (Y0 m c)) (anchors (Y0 m c)))
    (Cand.pred (cls (Y0 m c)) (regs (Y0 m c)))
    (V m c main_v44) (V m c main_v45) (V m c main_v46) (V m c main_v42) (V m c main_v43) (V m c main_v47) (V m c main_v48) := by
  unfold V
  rw [entry]
  exact {
    score := fun k => (scores_at _ k).trans (score3 m c k)
    labelRow := fun k => (labelRow_at _ k).trans (label3 m c k)
    labelCol := fun k => (labelCol_at _ k).trans (label3 m c k)
    anchorCol := fun k d => (anchorCol_at _ k d).trans (anchor3 m c k d)
    predCol := fun k d => (predCol_at _ k d).trans (pred3 m c k d)
    anchorRow := fun k d => (anchorRow_at _ k d).trans (anchor3 m c k d)
    predRow := fun k d => (predRow_at _ k d).trans (pred3 m c k d) }

end Cert.Proof.KerHost
end
-- ==== Proof.KerBlock.lean ====
/-
  The region's block is the result's transpose, on the candidates.
-/
module

public import proofs.«01_k».proof.Proof.KerAt

@[expose] public section
noncomputable section
open Idealize.ShloMosaic Idealize.ShloMosaic.TcCoe

namespace Cert.Proof.KerBlock
open Cert.KernelIdeal Cert.KernelIdeal.Gen Cert.Proof.KerBody Cert.Proof.KerAt

/-- The place of an element of a piece: its offset plus its own index. -/
theorem emb_val {S : Shape} (off size : Fin S.rank → Nat) (inb : ∀ a, off a + size a ≤ S.size a)
    (x : (Rect.unit off size inb).shape.Idx) (a : Fin S.rank) :
    ((Rect.unit off size inb).emb x a).val = off a + (x a).val :=
  congrArg (off a + ·) (Nat.one_mul (x a).val)

/-- Three pieces, rows zero to three, row four and row five: the value at row `r`, column `j`. -/
theorem pieces_at (w5 w4 : Vec Ideal S1x1024 .f32) (w0 : Vec Ideal S4x1024 .f32) (r : Fin 6) (j : Fin 1024) :
    View.canon (Val := Elt Ideal)
        [(⟨Rect.unit (s := S6x1024) ![5, 0] ![1, 1024] inb_S6x1024_S1x1024_5_0, w5⟩ : View.Piece (Elt Ideal) S6x1024 .f32),
         ⟨Rect.unit ![4, 0] ![1, 1024] inb_S6x1024_S1x1024_4_0, w4⟩,
         ⟨Rect.unit ![0, 0] ![4, 1024] inb_S6x1024_S4x1024_0_0, w0⟩] (ix2 r j)
      = if h : r.val < 4 then w0 (ix2 ⟨r.val, h⟩ j) else if r.val = 4 then w4 (ix2 0 j) else w5 (ix2 0 j) := by
  by_cases h5 : r.val = 5
  · rw [dif_neg (by omega), if_neg (by omega)]
    have e : (Rect.unit (s := S6x1024) ![5, 0] ![1, 1024] inb_S6x1024_S1x1024_5_0).emb (ix2 0 j) = ix2 r j :=
      funext fun a => Fin.ext ((emb_val _ _ _ _ a).trans (by fin_cases a <;> simp [ix2, h5]))
    rw [← e, View.canon_cons_emb]
  · rw [View.canon_cons_of_not_mem _ _ (by
      rw [Rect.mem_set_unit]
      intro h
      have := (h 0).1
      simp [ix2] at this
      omega)]
    by_cases h4 : r.val = 4
    · rw [dif_neg (by omega), if_pos h4]
      have e : (Rect.unit (s := S6x1024) ![4, 0] ![1, 1024] inb_S6x1024_S1x1024_4_0).emb (ix2 0 j) = ix2 r j :=
        funext fun a => Fin.ext ((emb_val _ _ _ _ a).trans (by fin_cases a <;> simp [ix2, h4]))
      rw [← e, View.canon_cons_emb]
    · rw [View.canon_cons_of_not_mem _ _ (by
        rw [Rect.mem_set_unit]
        intro h
        have := (h 0).1
        simp [ix2] at this
        omega)]
      have hr : r.val < 4 := by omega
      rw [dif_pos hr]
      have e : (Rect.unit (s := S6x1024) ![0, 0] ![4, 1024] inb_S6x1024_S4x1024_0_0).emb (ix2 ⟨r.val, hr⟩ j) = ix2 r j :=
        funext fun a => Fin.ext ((emb_val _ _ _ _ a).trans (by fin_cases a <;> simp [ix2]))
      rw [← e, View.canon_cons_emb]

/-- The block at row `r` and candidate `j` is the result at row `j`, column `r`. -/
theorem block_at {s l : Fin 1000 → EReal} {A : Fin 1000 → Fin 2 → EReal} {R : Fin 1000 → Fin 4 → EReal} (c : Dev nD)
    (arg0 : Memref sig .tc .vmem S1x1024 .f32) (harg0 : arg0.IsWhole)
    (arg1 : Memref sig .tc .vmem S1x1024 .f32) (harg1 : arg1.IsWhole)
    (arg2 : Memref sig .tc .vmem S1024x1 .f32) (harg2 : arg2.IsWhole)
    (arg3 : Memref sig .tc .vmem S1024x2 .f32) (harg3 : arg3.IsWhole)
    (arg4 : Memref sig .tc .vmem S1024x4 .f32) (harg4 : arg4.IsWhole)
    (arg5 : Memref sig .tc .vmem S2x1024 .f32) (harg5 : arg5.IsWhole)
    (arg6 : Memref sig .tc .vmem S4x1024 .f32) (harg6 : arg6.IsWhole)
    (arg7 : Memref sig .tc .vmem S6x1024 .f32) (harg7 : arg7.IsWhole)
    (arg8 : Memref sig .tc .vmem S1024x1024 .f32) (harg8 : arg8.IsWhole)
    {x0 x1 : Vec Ideal S1x1024 .f32} {x2 : Vec Ideal S1024x1 .f32} {x3 : Vec Ideal S1024x2 .f32}
    {x4 : Vec Ideal S1024x4 .f32} {x5 : Vec Ideal S2x1024 .f32} {x6 : Vec Ideal S4x1024 .f32}
    (h : Holds s l A R x0 x1 x2 x3 x4 x5 x6) (r : Fin 6) (j : Fin 1000) :
    out0_A_7 (F := Ideal) c arg0 harg0 arg1 harg1 arg2 harg2 arg3 harg3 arg4 harg4 arg5 harg5 arg6 harg6 arg7 harg7 arg8 harg8
      x0 x1 x2 x3 x4 x5 x6 (ix2 r (pl j)) = Spec.out s (boxes A R) l j r := by
  rw [block_val, pieces_at]
  unfold Spec.out
  refine dite_congr rfl (fun hr => ?_) (fun _ => ?_)
  · pointwise [k0_pay27]
    simp only [lo_row h, hi_row h, mask_at h]
    rfl
  · refine if_congr Iff.rfl ?_ ?_
    · pointwise [k0_pay28, k0_pay24]
      rw [mask_at h, h.score]
    · pointwise [k0_pay1]
      rw [h.labelRow]

end Cert.Proof.KerBlock
end
-- ==== Proof.KerValue.lean ====
/-
  What the kernel program ends with: its one region leaves its block, and the operations after it turn the block around
  and cut the padding off.
-/
module

public import proofs.«01_k».proof.Proof.KerHost
public import proofs.«01_k».proof.Proof.KerBlock
public import Idealize.ShloMosaic.Lib.Pipeline.Value

@[expose] public section
noncomputable section
open Idealize.ShloMosaic Idealize.ShloMosaic.StableHlo Idealize.SL.Sem

namespace Cert.Proof.KerValue
open Cert.KernelIdeal Cert.KernelIdeal.Gen Cert.Proof.KerAt Cert.Proof.KerTop Cert.Proof.KerHost

set_option maxRecDepth 20000

variable (m : (ℓ : Loc nD τ sig) → Buf (Elt Ideal) ℓ) (c : Dev nD) (t : Fin cfg0.N)

/-! ## The region's input blocks are whole arrays -/

/-! An index of a whole array's block is the same index of the array. -/

/-- Argument 0 of the call is handed over whole. -/
theorem block0 : iblk m c 0 t = V m c main_v44 := by
  funext j
  refine congrArg (V m c main_v44) (funext fun a => Fin.ext ?_)
  match a with
  | ⟨0, _⟩ => show 0 * 1 + 1 * (j 0).val = (j 0).val; omega
  | ⟨1, _⟩ => show 0 * 1024 + 1 * (j 1).val = (j 1).val; omega

/-- Argument 1 of the call is handed over whole. -/
theorem block1 : iblk m c 1 t = V m c main_v45 := by
  funext j
  refine congrArg (V m c main_v45) (funext fun a => Fin.ext ?_)
  match a with
  | ⟨0, _⟩ => show 0 * 1 + 1 * (j 0).val = (j 0).val; omega
  | ⟨1, _⟩ => show 0 * 1024 + 1 * (j 1).val = (j 1).val; omega

/-- Argument 2 of the call is handed over whole. -/
theorem block2 : iblk m c 2 t = V m c main_v46 := by
  funext j
  refine congrArg (V m c main_v46) (funext fun a => Fin.ext ?_)
  match a with
  | ⟨0, _⟩ => show 0 * 1024 + 1 * (j 0).val = (j 0).val; omega
  | ⟨1, _⟩ => show 0 * 1 + 1 * (j 1).val = (j 1).val; omega

/-- Argument 3 of the call is handed over whole. -/
theorem block3 : iblk m c 3 t = V m c main_v42 := by
  funext j
  refine congrArg (V m c main_v42) (funext fun a => Fin.ext ?_)
  match a with
  | ⟨0, _⟩ => show 0 * 1024 + 1 * (j 0).val = (j 0).val; omega
  | ⟨1, _⟩ => show 0 * 2 + 1 * (j 1).val = (j 1).val; omega

/-- Argument 4 of the call is handed over whole. -/
theorem block4 : iblk m c 4 t = V m c main_v43 := by
  funext j
  refine congrArg (V m c main_v43) (funext fun a => Fin.ext ?_)
  match a with
  | ⟨0, _⟩ => show 0 * 1024 + 1 * (j 0).val = (j 0).val; omega
  | ⟨1, _⟩ => show 0 * 4 + 1 * (j 1).val = (j 1).val; omega

/-- Argument 5 of the call is handed over whole. -/
theorem block5 : iblk m c 5 t = V m c main_v47 := by
  funext j
  refine congrArg (V m c main_v47) (funext fun a => Fin.ext ?_)
  match a with
  | ⟨0, _⟩ => show 0 * 2 + 1 * (j 0).val = (j 0).val; omega
  | ⟨1, _⟩ => show 0 * 1024 + 1 * (j 1).val = (j 1).val; omega

/-- Argument 6 of the call is handed over whole. -/
theorem block6 : iblk m c 6 t = V m c main_v48 := by
  funext j
  refine congrArg (V m c main_v48) (funext fun a => Fin.ext ?_)
  match a with
  | ⟨0, _⟩ => show 0 * 4 + 1 * (j 0).val = (j 0).val; omega
  | ⟨1, _⟩ => show 0 * 1024 + 1 * (j 1).val = (j 1).val; omega

/-! ## The region's result -/

/-- The result block at an index below a thousand. -/
theorem outs_at (r : Fin 6) (j : Fin 1000) :
    outsAt0 m c t (ix2 r (pl j)) = Cand.result (cls (Y0 m c)) (regs (Y0 m c)) (anchors (Y0 m c)) j r := by
  unfold outsAt0
  rw [block0, block1, block2, block3, block4, block5, block6]
  exact KerBlock.block_at c _ _ _ _ _ _ _ _ _ _ _ _ _ _ _ _ _ _ (holds m c) r j

/-- An index of the result's block is the same index of the result. -/
theorem emb7 (i : S6x1024.Idx) : ((cfg0.win 7).blk t).view.emb i = i := by
  refine funext fun a => Fin.ext ?_
  match a with
  | ⟨0, _⟩ => show 0 * 6 + 1 * (i 0).val = (i 0).val; omega
  | ⟨1, _⟩ => show 0 * 1024 + 1 * (i 1).val = (i 1).val; omega

/-- Cutting the block out of a buffer and reading the buffer through the block give the same. -/
theorem cut7 (Y : Vec Ideal S6x1024 .f32) : (cfg0.win 7).cut (grid0.coords t) Y = ((cfg0.win 7).blk t).view.read (Elt Ideal) Y := by
  funext i
  show Y i = Y (((cfg0.win 7).blk t).view.emb i)
  rw [emb7]

/-- The result copied back is what the body left. -/
theorem flushed7 : (dats m 0 c).flushed 7 t = ((cfg0.win 7).blk t).view.read (Elt Ideal) (outsAt0 m c t0_0) := by
  show (cfg0.win 7).cut (grid0.coords t) ((dats m 0 c).after 7 t) = _
  rw [after0_7, fin_N0 t]
  exact cut7 _ _

/-- The one copy back covers every place of the result. -/
theorem covered7 (i : S6x1024.Idx) :
    ∃ t : Fin cfg0.N, (cfg0.win 7).flush t = true ∧ i ∈ ((cfg0.win 7).blk t).view.set := by
  refine ⟨t0_0, flush0_7 _, ?_⟩
  have h := ((cfg0.win 7).blk t0_0).view.emb_mem_set i
  rwa [emb7] at h

/-- The result array is what the region's one point leaves. -/
theorem array7 : (dats m 0 c).arrAt 7 cfg0.N = outsAt0 m c t0_0 :=
  (dats m 0 c).arrAt_eq_of_cover 7 (outsAt0 m c t0_0) (fun t _ => flushed7 m c t) covered7

/-! ## After the region -/

/-- The last host operations transpose the result and keep the first thousand rows. -/
theorem tail_at (X : Valuation τ sig (Elt Ideal)) (j : Fin 1000) (q : Fin 6) :
    (after hostOps1 X (Proc.devRef .tc main_v51) : FVec Ideal S1000x6 .f32) (ix2 j q)
      = (X (Proc.devRef .tc main_v49) : FVec Ideal S6x1024 .f32) (ix2 q (pl j)) := by
  after_reads_at
  exact rfl

/-- The arrays of the call are different buffers. -/
theorem arrays_inj : Function.Injective (Pipeline.arrRef (sig := sig) spec0) := by decide

/-- The kernel's result. -/
theorem value (j : Fin 1000) (q : Fin 6) :
    (Pipeline.afterTail₀ cfgs (dats m) 0 (V0 m) [hostOps1] c main_v51 : FVec Ideal S1000x6 .f32) (ix2 j q)
      = Cand.result (cls (Y0 m c)) (regs (Y0 m c)) (anchors (Y0 m c)) j q := by
  unfold Pipeline.afterTail₀
  refine (tail_at _ j q).trans ?_
  refine (congrFun (Pipeline.withArrays_arr spec0 arrays_inj c (V0 m c) _ 7) (ix2 q (pl j))).trans ?_
  exact (congrFun (array7 m c) (ix2 q (pl j))).trans (outs_at m c _ q j)

/-- Every run of the kernel ends with its result. -/
theorem run (ρ : Dev nD → PrngReg) :
    θ_run defs (onTc (τ := τ) (main (F := Ideal))) ⟨m, fun _ => 0, ρ⟩ fun r => ∀ c : Dev nD, ∀ (j : Fin 1000) (q : Fin 6),
      (r.2.mem ((c.tc : Thread nD τ).loc main_v51) : FVec Ideal S1000x6 .f32) (ix2 j q)
        = Cand.result (cls (Y0 m c)) (regs (Y0 m c)) (anchors (Y0 m c)) j q :=
  (θ_run defs _ _).mono (fun _ h c j q =>
    (congrFun ((h c).2 main_v51 (Pipeline.mem_restRefs_of main_v51 (by decide) (by decide))) (ix2 j q)).trans (value m c j q))
    (run_main m ρ)

end Cert.Proof.KerValue
end
-- ==== Proof.RefPre.lean ====
/-
  What the reference's host operations before its loop leave in the buffers, one stretch at a time, read at an index.
-/
module

public import proofs.«01_k».proof.Proof.Cand
public import proofs.«01_k».proof.Proof.HostTop
public import proofs.«01_k».proof.Proof.Gen.ReferenceIdeal.Run
public import Idealize.ShloMosaic.Lib.StableHlo.ReadAt
public import Idealize.ShloMosaic.Lib.Pointwise

@[expose] public section
noncomputable section
open Idealize.ShloMosaic Idealize.ShloMosaic.StableHlo

namespace Cert.Proof.RefPre
open Cert.ReferenceIdeal Cert.ReferenceIdeal.Gen Cert.ReferenceIdeal.Value

set_option maxRecDepth 20000

variable (X : Valuation τ sig (Elt Ideal))

/-- The score table, the predictions and the anchors. -/
abbrev cls : FVec Ideal S20000x20 .f32 := X (Proc.devRef .tc main_arg0)
/-- The table of predictions among the contents. -/
abbrev regs : FVec Ideal S20000x4 .f32 := X (Proc.devRef .tc main_arg1)
/-- The anchor table among the contents. -/
abbrev anchors : FVec Ideal S20000x2 .f32 := X (Proc.devRef .tc main_arg2)

/-- The word of minus infinity is the least extended real. -/
theorem ninf : Ideal.ofBits .f32 0xFF800000#32 = (⊥ : EReal) := by
  simp [Ideal.ofBits, Ideal.ieee]

/-- The integer zero cast to a float is zero. -/
theorem cast_zero : FloatOps.sitofp (F := Ideal) .f32 (0#32) = (0 : EReal) := by
  show (((0#32 : BitVec 32).toInt : ℝ) : EReal) = 0
  simp

/-! ## Scores and boxes -/

/-- The selection gives the score of candidate `i`. -/
theorem values_at (i : Fin 1000) :
    (after hostOps0 X (Proc.devRef .tc main_values) : FVec Ideal S1000 .f32) (ix1 i) = Cand.score (cls X) i := by
  after_reads_at
  exact HostTop.vals1 (by decide) _ _ i

/-- The selection gives the place of candidate `i`, as a word. -/
theorem indices_at (i : Fin 1000) :
    (after hostOps0 X (Proc.devRef .tc main_indices) : IVec S1000 32) (ix1 i) = Cand.placeWord (cls X) i := by
  after_reads_at
  exact HostTop.places1 (by decide) _ _ i

/-- The starting flag: whether the score passes the threshold. -/
theorem pass_at (i : Fin 1000) :
    (after hostOps0 X (Proc.devRef .tc main_v23) : IVec S1000 1) (ix1 i)
      = BitVec.ofBool (decide (Ideal.ofBits .f32 0x3D4CCCCD#32 < Cand.score (cls X) i)) := by
  rw [← values_at]
  after_reads_at

/-- The decoded box of a table row. -/
theorem boxes_at (n : Fin 20000) (c : Fin 4) :
    (after hostOps0 X (Proc.devRef .tc main_v14) : FVec Ideal S20000x4 .f32) (ix2 n c)
      = Spec.decode (fun d => anchors X (ix2 n d)) (fun d => regs X (ix2 n d)) c := by
  after_reads_at
  rfl

/-- The divisor is 20. -/
theorem twenty_at : (after hostOps0 X (Proc.devRef .tc main_c) : IVec S_ 32) = fun _ => 20#32 := by
  after_reads_simp
  rfl

/-! ## Rows and classes -/

/-- The integer division and the remainder. -/
abbrev divide : Valuation τ sig (Elt Ideal) := after hostOps0_3 (after hostOps0_2 (after hostOps0_1 X))

/-- The quotient by 20, rounded down. -/
theorem quot_at (h : (X (Proc.devRef .tc main_c) : IVec S_ 32) = fun _ => 20#32) (i : Fin 1000) :
    (divide X (Proc.devRef .tc main_v24) : IVec S1000 32) (ix1 i)
      = Cand.fdiv ((X (Proc.devRef .tc main_indices) : IVec S1000 32) (ix1 i)) := by
  after_reads_at
  rw [h]
  rfl

/-- The remainder by 20. -/
theorem rem_at (i : Fin 1000) :
    (divide X (Proc.devRef .tc main_v25) : IVec S1000 32) (ix1 i)
      = Cand.fmod ((X (Proc.devRef .tc main_indices) : IVec S1000 32) (ix1 i)) := by
  after_reads_at
  rfl

/-- The division leaves the scores alone. -/
theorem divide_values : divide X (Proc.devRef .tc main_values) = X (Proc.devRef .tc main_values) := by after_reads_simp
/-- The division leaves the boxes alone. -/
theorem divide_boxes : divide X (Proc.devRef .tc main_v14) = X (Proc.devRef .tc main_v14) := by after_reads_simp
/-- The division leaves the flags alone. -/
theorem divide_pass : divide X (Proc.devRef .tc main_v23) = X (Proc.devRef .tc main_v23) := by after_reads_simp

/-! ## The chosen boxes, and the boxes moved apart -/

/-- The chosen boxes. -/
theorem chosen_at (i : Fin 1000) (c : Fin 4) :
    (after hostOps0_4 X (Proc.devRef .tc main_v32) : FVec Ideal S1000x4 .f32) (ix2 i c)
      = (X (Proc.devRef .tc main_v14) : FVec Ideal S20000x4 .f32)
          (ix2 (Rows.row (by decide) (Cand.wrap ((X (Proc.devRef .tc main_v24) : IVec S1000 32) (ix1 i)))) c) := by
  after_reads_simp
  refine (Rows.gather_at (by decide) gather_S20000x4_S1000x1_S1000x4_1_0_n_n_0_1_14.wf _ _ i c).trans ?_
  pointwise
  rfl

section
variable {B : Fin 1000 → Fin 4 → EReal} {l : Fin 1000 → EReal}
  (hB : ∀ i c, (after hostOps0_4 X (Proc.devRef .tc main_v32) : FVec Ideal S1000x4 .f32) (ix2 i c) = B i c)
  (hl : ∀ i, FloatOps.sitofp (F := Ideal) .f32 ((X (Proc.devRef .tc main_v25) : IVec S1000 32) (ix1 i)) = l i)
include hB hl

/-- The lower first coordinates of the moved boxes. -/
theorem x1_at (i : Fin 1000) :
    (after hostOps0_4 X (Proc.devRef .tc main_v42) : FVec Ideal S1000 .f32) (ix1 i) = Spec.moved B l i 0 := by
  unfold Spec.moved Spec.top
  simp only [← hB, ← hl, ← ninf]
  after_reads_at

/-- The lower second coordinates of the moved boxes. -/
theorem y1_at (i : Fin 1000) :
    (after hostOps0_4 X (Proc.devRef .tc main_v44) : FVec Ideal S1000 .f32) (ix1 i) = Spec.moved B l i 1 := by
  unfold Spec.moved Spec.top
  simp only [← hB, ← hl, ← ninf]
  after_reads_at

/-- The upper first coordinates of the moved boxes. -/
theorem x2_at (i : Fin 1000) :
    (after hostOps0_4 X (Proc.devRef .tc main_v46) : FVec Ideal S1000 .f32) (ix1 i) = Spec.moved B l i 2 := by
  unfold Spec.moved Spec.top
  simp only [← hB, ← hl, ← ninf]
  after_reads_at

/-- The upper second coordinates of the moved boxes. -/
theorem y2_at (i : Fin 1000) :
    (after hostOps0_4 X (Proc.devRef .tc main_v48) : FVec Ideal S1000 .f32) (ix1 i) = Spec.moved B l i 3 := by
  unfold Spec.moved Spec.top
  simp only [← hB, ← hl, ← ninf]
  after_reads_at

/-- The clipped width of a moved box. -/
theorem width_at (i : Fin 1000) :
    (after hostOps0_4 X (Proc.devRef .tc main_v49) : FVec Ideal S1000 .f32) (ix1 i)
      = Spec.moved B l i 2 - Spec.moved B l i 0 := by
  rw [← x2_at X hB hl, ← x1_at X hB hl]
  after_reads_at

end

/-- The lower bound of the clip is zero. -/
theorem zero_at : (after hostOps0_4 X (Proc.devRef .tc main_c_11) : IVec S_ 32) = fun _ => 0#32 := by
  after_reads_simp
  rfl

/-- The gather leaves the scores alone. -/
theorem chosen_values : after hostOps0_4 X (Proc.devRef .tc main_values) = X (Proc.devRef .tc main_values) := by after_reads_simp
/-- The gather leaves the flags alone. -/
theorem chosen_pass : after hostOps0_4 X (Proc.devRef .tc main_v23) = X (Proc.devRef .tc main_v23) := by after_reads_simp
/-- The gather leaves the remainders alone. -/
theorem chosen_rem : after hostOps0_4 X (Proc.devRef .tc main_v25) = X (Proc.devRef .tc main_v25) := by after_reads_simp

/-! ## The overlaps -/

/-- The operations from the first area on, up to the loop. -/
abbrev overlaps : Valuation τ sig (Elt Ideal) :=
  after hostOps0_12 (after hostOps0_11 (after hostOps0_10 (after hostOps0_9 (after hostOps0_8 (after hostOps0_7
    (after hostOps0_6 (after hostOps0_5 X)))))))

/-- The overlaps leave the scores alone. -/
theorem overlaps_values : overlaps X (Proc.devRef .tc main_values) = X (Proc.devRef .tc main_values) := by after_reads_simp
/-- The overlaps leave the chosen boxes alone. -/
theorem overlaps_chosen : overlaps X (Proc.devRef .tc main_v32) = X (Proc.devRef .tc main_v32) := by after_reads_simp
/-- The overlaps leave the remainders alone. -/
theorem overlaps_rem : overlaps X (Proc.devRef .tc main_v25) = X (Proc.devRef .tc main_v25) := by after_reads_simp

/-- The loop starts from the score test. -/
theorem overlaps_keep : overlaps X (Proc.devRef .tc main_v89_4) = X (Proc.devRef .tc main_v23) := by
  after_reads_simp
  rfl

/-- The loop's counter starts at zero. -/
theorem overlaps_ctr : (overlaps X (Proc.devRef .tc main_v89_3) : IVec S_ 32) = fun _ => 0#32 := by
  after_reads_simp
  rfl

/-- The loop's own copy of the candidates' numbers. -/
theorem overlaps_iota (i : Fin 1000) :
    (overlaps X (Proc.devRef .tc main_v89_1) : IVec S1000 32) (ix1 i) = BitVec.ofNat 32 i.val := by
  after_reads_simp
  rfl

section
variable {P : Fin 1000 → Fin 4 → EReal}
  (h0 : ∀ i, (X (Proc.devRef .tc main_v42) : FVec Ideal S1000 .f32) (ix1 i) = P i 0)
  (h1 : ∀ i, (X (Proc.devRef .tc main_v44) : FVec Ideal S1000 .f32) (ix1 i) = P i 1)
  (h2 : ∀ i, (X (Proc.devRef .tc main_v46) : FVec Ideal S1000 .f32) (ix1 i) = P i 2)
  (h3 : ∀ i, (X (Proc.devRef .tc main_v48) : FVec Ideal S1000 .f32) (ix1 i) = P i 3)
  (hw : ∀ i, (X (Proc.devRef .tc main_v49) : FVec Ideal S1000 .f32) (ix1 i) = P i 2 - P i 0)
  (hz : (X (Proc.devRef .tc main_c_11) : IVec S_ 32) = fun _ => 0#32)
include h0 h1 h2 h3 hw hz

/-- The overlap table: the shared area over the joint area. -/
theorem iou_at (i j : Fin 1000) :
    (overlaps X (Proc.devRef .tc main_v89_0) : FVec Ideal S1000x1000 .f32) (ix2 i j) = Spec.iou P i j := by
  after_reads_at
  simp only [id_eq]
  pointwise
  simp only [h0, h1, h2, h3, hw, hz, cast_zero, max_comm (0 : EReal)]
  rfl
end

end Cert.Proof.RefPre
end
-- ==== Proof.RefLoop.lean ====
/-
  The reference's loop: before trip `k` its mask says who is kept after the first `k` candidates were walked.
-/
module

public import proofs.«01_k».proof.Proof.RefPre
public import Idealize.ShloMosaic.Lib.WordCmp
public import Idealize.ShloMosaic.Lib.DynamicIndex

@[expose] public section
noncomputable section
open Idealize.ShloMosaic Idealize.ShloMosaic.StableHlo

namespace Cert.Proof.RefLoop
open Cert.ReferenceIdeal Cert.ReferenceIdeal.Gen Cert.ReferenceIdeal.Value

set_option maxRecDepth 20000

/-- A word that counts candidates is not negative, so jax's wrap leaves it. -/
theorem wrap_ofNat (k : Fin 1000) :
    Scalar.select (IntOp.cmpi .slt (BitVec.ofNat 32 k.val) 0#32) (IntOp.addi (BitVec.ofNat 32 k.val) 1000#32) (BitVec.ofNat 32 k.val)
      = BitVec.ofNat 32 k.val := by
  rw [show (0#32 : BitVec 32) = BitVec.ofNat 32 0 from rfl, WordCmp.cmpi_slt_ofNat (by omega) (by omega), Scalar.select_decide]
  exact if_neg (by omega)

variable (X : Valuation τ sig (Elt Ideal))

/-- One trip: candidate `j` stays unless candidate `k`, itself kept, overlaps it past the threshold and comes first. -/
theorem step_at (k j : Fin 1000) (hc : (X (Proc.devRef .tc main_v89_3) : IVec S_ 32) = fun _ => BitVec.ofNat 32 k.val) :
    (step_main_v89_4 X : IVec S1000 1) (ix1 j)
      = IntOp.andi ((X (Proc.devRef .tc main_v89_4) : IVec S1000 1) (ix1 j))
          (~~~ IntOp.andi
            (IntOp.andi
              (BitVec.ofBool (decide (Ideal.ofBits .f32 0x3F19999A#32 < (X (Proc.devRef .tc main_v89_0) : FVec Ideal S1000x1000 .f32) (ix2 k j))))
              (IntOp.cmpi .sgt ((X (Proc.devRef .tc main_v89_1) : IVec S1000 32) (ix1 j)) (BitVec.ofNat 32 k.val)))
            ((X (Proc.devRef .tc main_v89_4) : IVec S1000 1) (ix1 k))) := by
  unfold step_main_v89_4 res_main_while0b_v100
  rw [hc]
  simp only [id_eq]
  pointwise
  refine congrArg₂ IntOp.andi rfl (congrArg _ (congrArg₂ IntOp.andi (congrArg₂ IntOp.andi
    (congrArg (fun v => BitVec.ofBool (decide (Ideal.ofBits .f32 0x3F19999A#32 < v)))
      (congrArg (X (Proc.devRef .tc main_v89_0)) ?_)) rfl)
    (congrArg (X (Proc.devRef .tc main_v89_4)) ?_)))
  · refine (ix2_inj _ _ _ _).mpr ⟨Fin.ext ?_, Fin.ext ?_⟩
    · show (min (max (BitVec.toInt (Scalar.select (IntOp.cmpi .slt (BitVec.ofNat 32 k.val) 0#32)
        (IntOp.addi (BitVec.ofNat 32 k.val) 1000#32) (BitVec.ofNat 32 k.val))) 0) ((1000 - 1 : Nat) : Int)).toNat = k.val
      rw [wrap_ofNat, toInt_ofNat_of_lt (by omega)]
      omega
    · show (min (max (BitVec.toInt (Scalar.select (IntOp.cmpi .slt (0#32 : BitVec 32) 0#32)
        (IntOp.addi (0#32 : BitVec 32) 1000#32) (0#32 : BitVec 32))) 0) ((1000 - 1000 : Nat) : Int)).toNat + j.val = j.val
      rw [show Scalar.select (IntOp.cmpi .slt (0#32 : BitVec 32) 0#32) (IntOp.addi (0#32 : BitVec 32) 1000#32) (0#32 : BitVec 32)
        = BitVec.ofNat 32 0 from wrap_ofNat 0, toInt_ofNat_of_lt (by omega)]
      omega
  · refine (ix1_inj _ _).mpr (Fin.ext ?_)
    show (min (max (BitVec.toInt (Scalar.select (IntOp.cmpi .slt (BitVec.ofNat 32 k.val) 0#32)
      (IntOp.addi (BitVec.ofNat 32 k.val) 1000#32) (BitVec.ofNat 32 k.val))) 0) ((1000 - 1 : Nat) : Int)).toNat = k.val
    rw [wrap_ofNat, toInt_ofNat_of_lt (by omega)]
    omega

/-! ## The loop's state -/

open Classical in
/-- What the loop's buffers hold before trip `n`. -/
structure State (s : Fin 1000 → EReal) (P : Fin 1000 → Fin 4 → EReal) (n : ℕ) (V : Valuation τ sig (Elt Ideal)) : Prop where
  ctr : (V (Proc.devRef .tc main_v89_3) : IVec S_ 32) = fun _ => BitVec.ofNat 32 n
  iota : ∀ j : Fin 1000, (V (Proc.devRef .tc main_v89_1) : IVec S1000 32) (ix1 j) = BitVec.ofNat 32 j.val
  iou : ∀ i j : Fin 1000, (V (Proc.devRef .tc main_v89_0) : FVec Ideal S1000x1000 .f32) (ix2 i j) = Spec.iou P i j
  keep : ∀ j : Fin 1000, (V (Proc.devRef .tc main_v89_4) : IVec S1000 1) (ix1 j) = BitVec.ofBool (decide (Spec.keep s P n j))

/-- One trip of the loop. -/
abbrev trip : Valuation τ sig (Elt Ideal) := afterL bodyI (after condOps X)

/-- What one trip leaves in a buffer that the loop carries. -/
theorem carried (r : Ref sig .tc) (h : r ∈ carriedRefs) : trip X (Proc.devRef .tc r) = STEP X (Proc.devRef .tc r) :=
  trip_agree X r h

open Classical in
/-- One trip walks one candidate. -/
theorem State.next {s : Fin 1000 → EReal} {P : Fin 1000 → Fin 4 → EReal} (k : Fin 1000) {X : Valuation τ sig (Elt Ideal)}
    (h : State s P k.val X) : State s P (k.val + 1) (trip X) where
  ctr := by
    rw [carried X main_v89_3 (by decide), STEP_main_v89_3]
    unfold step_main_v89_3
    rw [h.ctr]
    funext _
    show BitVec.ofNat 32 k.val + BitVec.ofNat 32 1 = _
    rw [← BitVec.ofNat_add]
  iota j := by
    rw [carried X main_v89_1 (by decide), STEP_main_v89_1]
    exact h.iota j
  iou i j := by
    rw [carried X main_v89_0 (by decide), STEP_main_v89_0]
    exact h.iou i j
  keep j := by
    rw [carried X main_v89_4 (by decide), STEP_main_v89_4, step_at X k j h.ctr, h.keep, h.keep, h.iou, h.iota,
      WordCmp.cmpi_sgt_ofNat (by omega) (by omega)]
    simp only [Spec.keep, Spec.drops]
    by_cases hK : Spec.keep s P k.val k <;> by_cases hj : Spec.keep s P k.val j <;>
      by_cases hlt : k.val < j.val <;>
      by_cases ho : Ideal.ofBits .f32 0x3F19999A#32 < Spec.iou P k j <;>
      simp [hK, hj, hlt, ho, Fin.lt_def, IntOp.andi]

/-- The whole loop. -/
theorem State.run {s : Fin 1000 → EReal} {P : Fin 1000 → Fin 4 → EReal} (m : (ℓ : Loc nD τ sig) → Buf (Elt Ideal) ℓ) (c : Dev nD)
    (h : State s P 0 (entryContents preI m c)) : ∀ n, n ≤ 1000 → State s P n (atK m n c)
  | 0, _ => h
  | n + 1, hn => State.next ⟨n, hn⟩ (State.run m c h n (by omega))

/-- A buffer that one trip leaves alone, the loop leaves alone. -/
theorem kept_through (m : (ℓ : Loc nD τ sig) → Buf (Elt Ideal) ℓ) (c : Dev nD) (r : Ref sig .tc)
    (h : ∀ X : Valuation τ sig (Elt Ideal), trip X (Proc.devRef .tc r) = X (Proc.devRef .tc r)) :
    ∀ n, atK m n c (Proc.devRef .tc r) = entryContents preI m c (Proc.devRef .tc r)
  | 0 => rfl
  | n + 1 => (h (atK m n c)).trans (kept_through m c r h n)

/-- A step leaves the scores alone. -/
theorem trip_values : trip X (Proc.devRef .tc main_values) = X (Proc.devRef .tc main_values) := by
  simp only [afterL_cons, afterL_nil]
  after_reads_simp

/-- A step leaves the remainders alone. -/
theorem trip_rem : trip X (Proc.devRef .tc main_v25) = X (Proc.devRef .tc main_v25) := by
  simp only [afterL_cons, afterL_nil]
  after_reads_simp

/-- A step leaves the chosen boxes alone. -/
theorem trip_chosen : trip X (Proc.devRef .tc main_v32) = X (Proc.devRef .tc main_v32) := by
  simp only [afterL_cons, afterL_nil]
  after_reads_simp

end Cert.Proof.RefLoop
end
-- ==== Proof.RefValue.lean ====
/-
  The reference's result: every entry is the specification's.
-/
module

public import proofs.«01_k».proof.Proof.RefLoop

@[expose] public section
noncomputable section
open Idealize.ShloMosaic Idealize.ShloMosaic.StableHlo

namespace Cert.Proof.RefValue
open Cert.ReferenceIdeal Cert.ReferenceIdeal.Gen Cert.ReferenceIdeal.Value
open Cert.Proof.RefPre Cert.Proof.RefLoop

set_option maxRecDepth 20000

variable (X : Valuation τ sig (Elt Ideal))

/-- The buffers' contents after each stretch before the loop. -/
abbrev X1 : Valuation τ sig (Elt Ideal) := after hostOps0 X
/-- The contents after the division. -/
abbrev X2 : Valuation τ sig (Elt Ideal) := divide (X1 X)
/-- The contents after the gather. -/
abbrev X3 : Valuation τ sig (Elt Ideal) := after hostOps0_4 (X2 X)
/-- The contents after the overlaps. -/
abbrev X4 : Valuation τ sig (Elt Ideal) := overlaps (X3 X)

/-- The candidates' scores, boxes and classes. -/
abbrev sc : Fin 1000 → EReal := Cand.score (cls X)
/-- The boxes of the candidates. -/
abbrev bx : Fin 1000 → Fin 4 → EReal := Cand.box (cls X) (regs X) (anchors X)
/-- The labels of the candidates. -/
abbrev lb : Fin 1000 → EReal := Cand.label (cls X)

/-- The chosen box of candidate `i`. -/
theorem boxAt (i : Fin 1000) (c : Fin 4) :
    (X3 X (Proc.devRef .tc main_v32) : FVec Ideal S1000x4 .f32) (ix2 i c) = bx X i c := by
  show (after hostOps0_4 (divide (after hostOps0 X)) (Proc.devRef .tc main_v32) : FVec Ideal S1000x4 .f32) (ix2 i c) = _
  rw [chosen_at, quot_at _ (twenty_at X), indices_at, divide_boxes, boxes_at]
  rfl

/-- The label of candidate `i`, cast to a float. -/
theorem labelAt (i : Fin 1000) :
    FloatOps.sitofp (F := Ideal) .f32 ((X2 X (Proc.devRef .tc main_v25) : IVec S1000 32) (ix1 i)) = lb X i := by
  show FloatOps.sitofp (F := Ideal) .f32 ((divide (after hostOps0 X) (Proc.devRef .tc main_v25) : IVec S1000 32) (ix1 i)) = _
  rw [rem_at, indices_at]
  rfl

open Classical in
/-- The loop starts with the score test and the overlaps of the boxes moved apart. -/
theorem start : State (sc X) (Spec.moved (bx X) (lb X)) 0 (X4 X) where
  ctr := overlaps_ctr _
  iota := overlaps_iota _
  iou := iou_at _ (x1_at _ (boxAt X) (labelAt X)) (y1_at _ (boxAt X) (labelAt X)) (x2_at _ (boxAt X) (labelAt X))
    (y2_at _ (boxAt X) (labelAt X)) (width_at _ (boxAt X) (labelAt X)) (zero_at _)
  keep j := by
    show (overlaps (after hostOps0_4 (divide (after hostOps0 X))) (Proc.devRef .tc main_v89_4) : IVec S1000 1) (ix1 j) = _
    rw [overlaps_keep, chosen_pass, divide_pass, pass_at]
    exact congrArg BitVec.ofBool (decide_eq_decide.mpr Iff.rfl)

section
variable {s l : Fin 1000 → EReal} {B : Fin 1000 → Fin 4 → EReal}

open Classical in
/-- A bit as a number. -/
theorem bit_val (p : Prop) : FloatOps.uitofp (F := Ideal) .f32 (BitVec.ofBool (decide p)) = (if p then (1 : EReal) else 0) := by
  show (((BitVec.ofBool (decide p)).toNat : ℝ) : EReal) = _
  by_cases h : p <;> simp [h]

open Classical in
/-- The last stretch: kept boxes, kept scores, classes. -/
theorem post_at
    (hB : ∀ i c, (X (Proc.devRef .tc main_v32) : FVec Ideal S1000x4 .f32) (ix2 i c) = B i c)
    (hs : ∀ i, (X (Proc.devRef .tc main_values) : FVec Ideal S1000 .f32) (ix1 i) = s i)
    (hl : ∀ i, FloatOps.sitofp (F := Ideal) .f32 ((X (Proc.devRef .tc main_v25) : IVec S1000 32) (ix1 i)) = l i)
    (hk : ∀ j : Fin 1000, (X (Proc.devRef .tc main_v89_4) : IVec S1000 1) (ix1 j)
      = BitVec.ofBool (decide (Spec.keep s (Spec.moved B l) 1000 j)))
    (j : Fin 1000) (q : Fin 6) :
    (after hostOps0_13 X (Proc.devRef .tc main_v98) : FVec Ideal S1000x6 .f32) (ix2 j q) = Spec.out s B l j q := by
  after_reads_at
  after_reads_at
  simp only [hB, hs, hl, hk, bit_val]
  unfold Spec.out Spec.mask
  by_cases h : q.val < 4
  · rw [dif_pos h, dif_pos h]
  · rw [dif_neg h, dif_neg h]
    by_cases h4 : q.val = 4
    · rw [dif_pos (by omega), if_pos h4]
    · rw [dif_neg (by omega), if_neg h4]
end

/-- The condition's operations leave the buffers alone that the last stretch reads. -/
theorem cond_chosen : after condOps X (Proc.devRef .tc main_v32) = X (Proc.devRef .tc main_v32) := by after_reads_simp
/-- The test of the loop leaves the scores alone. -/
theorem cond_values : after condOps X (Proc.devRef .tc main_values) = X (Proc.devRef .tc main_values) := by after_reads_simp
/-- The test of the loop leaves the remainders alone. -/
theorem cond_rem : after condOps X (Proc.devRef .tc main_v25) = X (Proc.devRef .tc main_v25) := by after_reads_simp
/-- The test of the loop leaves the flags alone. -/
theorem cond_keep : after condOps X (Proc.devRef .tc main_v89_4) = X (Proc.devRef .tc main_v89_4) := by after_reads_simp

/-- The reference's result, in terms of the arguments. -/
theorem value (m : (ℓ : Loc nD τ sig) → Buf (Elt Ideal) ℓ) (c : Dev nD) (j : Fin 1000) (q : Fin 6) :
    (finalContents condOps preI bodyI postI 1000 m c (Proc.devRef .tc main_v98) : FVec Ideal S1000x6 .f32) (ix2 j q)
      = Cand.result (cls (launchContents m c)) (regs (launchContents m c)) (anchors (launchContents m c)) j q := by
  have hE : entryContents preI m c = X4 (launchContents m c) := rfl
  show (after hostOps0_13 (after condOps (atK m 1000 c)) (Proc.devRef .tc main_v98) : FVec Ideal S1000x6 .f32) (ix2 j q) = _
  refine post_at _ (fun i d => ?_) (fun i => ?_) (fun i => ?_) (fun i => ?_) j q
  · rw [cond_chosen, kept_through m c main_v32 trip_chosen, hE]
    show (overlaps (X3 (launchContents m c)) (Proc.devRef .tc main_v32) : FVec Ideal S1000x4 .f32) (ix2 i d) = _
    rw [overlaps_chosen]
    exact boxAt _ i d
  · rw [cond_values, kept_through m c main_values trip_values, hE]
    show (overlaps (after hostOps0_4 (divide (after hostOps0 (launchContents m c)))) (Proc.devRef .tc main_values) : FVec Ideal S1000 .f32) (ix1 i) = _
    rw [overlaps_values, chosen_values, divide_values]
    exact values_at _ i
  · rw [cond_rem, kept_through m c main_v25 trip_rem, hE]
    show FloatOps.sitofp (F := Ideal) .f32
      ((overlaps (after hostOps0_4 (X2 (launchContents m c))) (Proc.devRef .tc main_v25) : IVec S1000 32) (ix1 i)) = _
    rw [overlaps_rem, chosen_rem]
    exact labelAt _ i
  · rw [cond_keep]
    exact (State.run m c (hE ▸ start (launchContents m c)) 1000 le_rfl).keep i

end Cert.Proof.RefValue
end
-- ==== Proof.RefFrame.lean ====
/-
  The reference ends with its argument arrays as they were, and with the value shown in `RefValue`.
-/
module

public import proofs.«01_k».proof.Proof.RefValue
public import Idealize.ShloMosaic.Lib.Quiescent

@[expose] public section
noncomputable section
open Idealize.ShloMosaic Idealize.ShloMosaic.StableHlo Idealize.SL.Sem

namespace Cert.Proof.RefFrame
open Cert.ReferenceIdeal Cert.ReferenceIdeal.Gen Cert.ReferenceIdeal.Value Cert.Proof.RefPre Cert.Proof.RefLoop

set_option maxRecDepth 20000

variable (X : Valuation τ sig (Elt Ideal)) (m : (ℓ : Loc nD τ sig) → Buf (Elt Ideal) ℓ) (c : Dev nD)

/-- A buffer that no stretch of the program writes ends as it was launched. -/
theorem unchanged (r : Ref sig .tc)
    (hpre : ∀ X : Valuation τ sig (Elt Ideal), afterL preI X (Proc.devRef .tc r) = X (Proc.devRef .tc r))
    (htrip : ∀ X : Valuation τ sig (Elt Ideal), trip X (Proc.devRef .tc r) = X (Proc.devRef .tc r))
    (hcond : ∀ X : Valuation τ sig (Elt Ideal), after condOps X (Proc.devRef .tc r) = X (Proc.devRef .tc r))
    (hpost : ∀ X : Valuation τ sig (Elt Ideal), after hostOps0_13 X (Proc.devRef .tc r) = X (Proc.devRef .tc r)) :
    finalContents condOps preI bodyI postI 1000 m c (Proc.devRef .tc r) = launchContents m c (Proc.devRef .tc r) := by
  show after hostOps0_13 (after condOps (atK m 1000 c)) (Proc.devRef .tc r) = _
  rw [hpost, hcond, kept_through m c r htrip]
  exact hpre _

/-- Argument 0 is never written. -/
theorem arg0 : finalContents condOps preI bodyI postI 1000 m c (Proc.devRef .tc main_arg0) = launchContents m c (Proc.devRef .tc main_arg0) :=
  unchanged m c _ (fun X => by simp only [afterL_cons, afterL_nil]; after_reads_simp)
    (fun X => by simp only [afterL_cons, afterL_nil]; after_reads_simp) (fun X => by after_reads_simp) (fun X => by after_reads_simp)

/-- Argument 1 is never written. -/
theorem arg1 : finalContents condOps preI bodyI postI 1000 m c (Proc.devRef .tc main_arg1) = launchContents m c (Proc.devRef .tc main_arg1) :=
  unchanged m c _ (fun X => by simp only [afterL_cons, afterL_nil]; after_reads_simp)
    (fun X => by simp only [afterL_cons, afterL_nil]; after_reads_simp) (fun X => by after_reads_simp) (fun X => by after_reads_simp)

/-- Argument 2 is never written. -/
theorem arg2 : finalContents condOps preI bodyI postI 1000 m c (Proc.devRef .tc main_arg2) = launchContents m c (Proc.devRef .tc main_arg2) :=
  unchanged m c _ (fun X => by simp only [afterL_cons, afterL_nil]; after_reads_simp)
    (fun X => by simp only [afterL_cons, afterL_nil]; after_reads_simp) (fun X => by after_reads_simp) (fun X => by after_reads_simp)

/-- The reference's run leaves the argument arrays as they were. -/
theorem args (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0 (by decide)).trans (arg0 m c), (h c main_arg1 (by decide)).trans (arg1 m c),
    (h c main_arg2 (by decide)).trans (arg2 m c)⟩) (run_fold m ρ)

/-- The program has no semaphore, so every counter ends at zero. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by decide) r.2⟩) (args m ρ)

/-- Every run of the reference ends with its result. -/
theorem run (ρ : Dev nD → PrngReg) :
    θ_run defs (onTc (τ := τ) (main (F := Ideal))) ⟨m, fun _ => 0, ρ⟩ fun r => ∀ (c : Dev nD) (j : Fin 1000) (q : Fin 6),
      (r.2.mem ((c.tc : Thread nD τ).loc main_v98) : FVec Ideal S1000x6 .f32) (ix2 j q)
        = Cand.result (cls (launchContents m c)) (regs (launchContents m c)) (anchors (launchContents m c)) j q :=
  (θ_run defs _ _).mono (fun _ h c j q =>
    (congrFun (h c main_v98 (by decide)) (ix2 j q)).trans (RefValue.value m c j q)) (run_fold m ρ)

end Cert.Proof.RefFrame
end
-- ==== Proof.Equation.lean ====
/-
  The equation: started from memories that agree on the arguments, the kernel program and the reference end with the
  same thousand rows.
-/
module

public import proofs.«01_k».proof.Defs
public import proofs.«01_k».proof.Proof.KerValue
public import proofs.«01_k».proof.Proof.RefFrame

@[expose] public section
noncomputable section
open Idealize.ShloMosaic Idealize.SL.Sem

namespace Cert.Proof.Equation

/-- An index of the result is its row and its column. -/
theorem idx_eq (i : (⟨2, ![1000, 6]⟩ : Shape).Idx) : i = ix2 (i 0) (i 1) :=
  funext fun a => match a with
    | ⟨0, _⟩ => rfl
    | ⟨1, _⟩ => rfl

/-- Two buffers are equal if they are at every row and column. -/
theorem rows_ext {x y : (⟨2, ![1000, 6]⟩ : Shape).Idx → EReal} (h : ∀ (j : Fin 1000) (q : Fin 6), x (ix2 j q) = y (ix2 j q)) :
    x = y := by
  funext i
  rw [idx_eq i]
  exact h _ _

/-- Over the extended reals the kernel program and the reference, from equal arguments, end with equal results and unchanged arguments. -/
theorem equal : Cert.algebraic_KernelIdeal_ReferenceIdeal (hKernelIdeal := Cert.KernelIdeal.Gen.facts)
    (hReferenceIdeal := Cert.ReferenceIdeal.Gen.facts) := by
  intro m g m' g' _ hagree
  refine ⟨fun c i => Cand.result (KerTop.cls (KerHost.Y0 m c)) (KerTop.regs (KerHost.Y0 m c)) (KerTop.anchors (KerHost.Y0 m c)) (i 0) (i 1), ?_, ?_⟩
  · refine (θ_run _ _ _).mono (fun r h c => ⟨rows_ext (fun j q => h.1 c j q), h.2 c⟩)
      (θ_run_and (KerValue.run m g) (Cert.KernelIdeal.Gen.unchanged m g))
  · refine (θ_run _ _ _).mono (fun r h c => ⟨rows_ext (fun j q => (h.1 c j q).trans ?_), h.2 c⟩)
      (θ_run_and (RefFrame.run m' g') (RefFrame.args m' g'))
    obtain ⟨h0, h1, h2⟩ := hagree c
    have e0 : RefPre.cls (StableHlo.launchContents m' c) = KerTop.cls (KerHost.Y0 m c) := h0
    have e1 : RefPre.regs (StableHlo.launchContents m' c) = KerTop.regs (KerHost.Y0 m c) := h1
    have e2 : RefPre.anchors (StableHlo.launchContents m' c) = KerTop.anchors (KerHost.Y0 m c) := h2
    rw [e0, e1, e2]
    rfl

end Cert.Proof.Equation
end
-- ==== Proof.lean ====
module

public import proofs.«01_k».proof.Defs
public import proofs.«01_k».proof.Proof.Equation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal

@[expose] public section

noncomputable section

namespace Cert.Proof

open Idealize.ShloMosaic Idealize.SL.Sem

/-- The mask constant's name stands for the least extended real. -/
theorem mask_named : Cert.preserves_Kernel_KernelIdeal :=
  IdealRules.named_const.statement Cert.KernelIdeal.κ "mask" .f32 0xF149F2CA#32 ⊥ rfl

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => RefFrame.frame m ρ, mask_named, Equation.equal⟩

end Cert.Proof

end
